-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_plain_norms [hPre_plain_norms : Cert.Pre_plain_norms.Facts] (m : (ℓ : Loc Cert.KernelIdeal.nD Cert.KernelIdeal.τ Cert.KernelIdeal.sig) → Buf (Elt Ideal) ℓ) : Prop :=
  ∀ c : Dev Cert.KernelIdeal.nD,
    (Cert.Pre_plain_norms.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).1 = (fun _ => 1#1)
    ∧ (Cert.Pre_plain_norms.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.1 = (fun _ => 1#1)
    ∧ (Cert.Pre_plain_norms.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.1 = (fun _ => 1#1)
    ∧ (Cert.Pre_plain_norms.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_plain_norms [hPre_plain_norms : Cert.Pre_plain_norms.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_plain_norms.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).1 = (fun _ => 1#1)
    ∧ (Cert.Pre_plain_norms.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.1 = (fun _ => 1#1)
    ∧ (Cert.Pre_plain_norms.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.1 = (fun _ => 1#1)
    ∧ (Cert.Pre_plain_norms.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_plain_norms [hKernelIdeal : Cert.KernelIdeal.Facts] [hPre_plain_norms : Cert.Pre_plain_norms.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_plain_norms m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_plain_norms [hReferenceIdeal : Cert.ReferenceIdeal.Facts] [hPre_plain_norms : Cert.Pre_plain_norms.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_plain_norms m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal_pre_plain_norms [hKernelIdeal : Cert.KernelIdeal.Facts] [hReferenceIdeal : Cert.ReferenceIdeal.Facts] [hPre_plain_norms : Cert.Pre_plain_norms.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_plain_norms m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_v32) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_plain_norms : Cert.Pre_plain_norms.Facts),
    quiescent_Kernel (hKernel := hKernel)
    ∧ quiescent_KernelIdeal (hKernelIdeal := hKernelIdeal)
    ∧ quiescent_KernelIdeal_pre_plain_norms (hKernelIdeal := hKernelIdeal) (hPre_plain_norms := hPre_plain_norms)
    ∧ quiescent_ReferenceIdeal (hReferenceIdeal := hReferenceIdeal)
    ∧ quiescent_ReferenceIdeal_pre_plain_norms (hReferenceIdeal := hReferenceIdeal) (hPre_plain_norms := hPre_plain_norms)
    ∧ preserves_Kernel_KernelIdeal
    ∧ algebraic_KernelIdeal_ReferenceIdeal_pre_plain_norms (hKernelIdeal := hKernelIdeal) (hReferenceIdeal := hReferenceIdeal) (hPre_plain_norms := hPre_plain_norms)
-- ==== Pre_plain_norms.lean ====
abbrev S1024x20 : Shape := ⟨2, ![1024, 20]⟩
abbrev S4x128 : Shape := ⟨2, ![4, 128]⟩
abbrev S2x3 : Shape := ⟨2, ![2, 3]⟩
abbrev S2x128 : Shape := ⟨2, ![2, 128]⟩
abbrev S128x512 : Shape := ⟨2, ![128, 512]⟩
abbrev S128 : Shape := ⟨1, ![128]⟩
abbrev S64x128 : Shape := ⟨2, ![64, 128]⟩
abbrev S64 : Shape := ⟨1, ![64]⟩
abbrev S2x64 : Shape := ⟨2, ![2, 64]⟩
abbrev S2 : Shape := ⟨1, ![2]⟩
abbrev S_ : Shape := ⟨0, ![]⟩

class Facts : Prop where
  bcast_S_S2x128 : S_.BroadcastsInDim S2x128 (![] : Fin 0 → Fin S2x128.rank)
  bcast_S_S4x128 : S_.BroadcastsInDim S4x128 (![] : Fin 0 → Fin S4x128.rank)
  bcast_S_S2x3 : S_.BroadcastsInDim S2x3 (![] : Fin 0 → Fin S2x3.rank)

variable [Facts]

def fn {F : FTy → Type} [FloatOps F] (main_arg0 : IVec S1024x20 32) (main_arg1 : FVec F S4x128 .f32) (main_arg2 : FVec F S2x3 .f32) (main_arg3 : FVec F S2x128 .f32) (main_arg4 : FVec F S2x128 .f32) (main_arg5 : FVec F S128x512 .f32) (main_arg6 : FVec F S128 .f32) (main_arg7 : FVec F S64x128 .f32) (main_arg8 : FVec F S64 .f32) (main_arg9 : FVec F S2x64 .f32) (main_arg10 : FVec F S2 .f32) : IVec S2x128 1 × IVec S2x128 1 × IVec S4x128 1 × IVec S2x3 1 :=
  let main_cst : FVec F S_ .f32 := constant S_ .f32 0x3F800000#32
  let main_v0 : FVec F S2x128 .f32 := broadcastInDim S2x128 ![] bcast_S_S2x128 main_cst
  let main_v1 : IVec S2x128 1 := cmpf .oeq main_arg3 main_v0
  let main_cst_0 : FVec F S_ .f32 := constant S_ .f32 0x00000000#32
  let main_v2 : FVec F S2x128 .f32 := broadcastInDim S2x128 ![] bcast_S_S2x128 main_cst_0
  let main_v3 : IVec S2x128 1 := cmpf .oeq main_arg4 main_v2
  let main_v4 : FVec F S4x128 .f32 := Host.absf main_arg1
  let main_cst_1 : FVec F S_ .f32 := constant S_ .f32 0x7F800000#32
  let main_v5 : FVec F S4x128 .f32 := broadcastInDim S4x128 ![] bcast_S_S4x128 main_cst_1
  let main_v6 : IVec S4x128 1 := cmpf .olt main_v4 main_v5
  let main_v7 : FVec F S2x3 .f32 := Host.absf main_arg2
  let main_cst_2 : FVec F S_ .f32 := constant S_ .f32 0x7F800000#32
  let main_v8 : FVec F S2x3 .f32 := broadcastInDim S2x3 ![] bcast_S_S2x3 main_cst_2
  let main_v9 : IVec S2x3 1 := cmpf .olt main_v7 main_v8
  (main_v1, main_v3, main_v6, main_v9)
-- ==== Kernel.lean ====
abbrev S1024x20 : Shape := ⟨2, ![1024, 20]⟩
abbrev S4x128 : Shape := ⟨2, ![4, 128]⟩
abbrev S2x3 : Shape := ⟨2, ![2, 3]⟩
abbrev S2x128 : Shape := ⟨2, ![2, 128]⟩
abbrev S128x512 : Shape := ⟨2, ![128, 512]⟩
abbrev S128 : Shape := ⟨1, ![128]⟩
abbrev S64x128 : Shape := ⟨2, ![64, 128]⟩
abbrev S64 : Shape := ⟨1, ![64]⟩
abbrev S2x64 : Shape := ⟨2, ![2, 64]⟩
abbrev S2 : Shape := ⟨1, ![2]⟩
abbrev S1024 : Shape := ⟨1, ![1024]⟩
abbrev S32x1024 : Shape := ⟨2, ![32, 1024]⟩
abbrev S20x1024 : Shape := ⟨2, ![20, 1024]⟩
abbrev S1x1 : Shape := ⟨2, ![1, 1]⟩
abbrev S4x1 : Shape := ⟨2, ![4, 1]⟩
abbrev S8x1 : Shape := ⟨2, ![8, 1]⟩
abbrev S1x1024 : Shape := ⟨2, ![1, 1024]⟩
abbrev S8x1024 : Shape := ⟨2, ![8, 1024]⟩
abbrev S128x4 : Shape := ⟨2, ![128, 4]⟩
abbrev S4 : Shape := ⟨1, ![4]⟩
abbrev S1x4 : Shape := ⟨2, ![1, 4]⟩
abbrev S128x1 : Shape := ⟨2, ![128, 1]⟩
abbrev S128x1024 : Shape := ⟨2, ![128, 1024]⟩
abbrev S1x128 : Shape := ⟨2, ![1, 128]⟩
abbrev S1x64 : Shape := ⟨2, ![1, 64]⟩
abbrev S64x1 : Shape := ⟨2, ![64, 1]⟩
abbrev S1x2 : Shape := ⟨2, ![1, 2]⟩
abbrev S2x1 : Shape := ⟨2, ![2, 1]⟩
abbrev S128x128 : Shape := ⟨2, ![128, 128]⟩
abbrev S64x1024 : Shape := ⟨2, ![64, 1024]⟩
abbrev S2x1024 : Shape := ⟨2, ![2, 1024]⟩

abbrev nBuf : Space → Nat
  | .hbm => 13
  | .vmem => 14
  | .smem => 0
  | _ => 0

abbrev bufTy : (tb : Table) → Fin (tcTables nBuf tb) → BufTy
  | .hbm, ⟨0, _⟩ => ⟨S1024x20, .i32⟩
  | .hbm, ⟨1, _⟩ => ⟨S4x128, .f32⟩
  | .hbm, ⟨2, _⟩ => ⟨S2x3, .f32⟩
  | .hbm, ⟨3, _⟩ => ⟨S2x128, .f32⟩
  | .hbm, ⟨4, _⟩ => ⟨S2x128, .f32⟩
  | .hbm, ⟨5, _⟩ => ⟨S128x512, .f32⟩
  | .hbm, ⟨6, _⟩ => ⟨S128, .f32⟩
  | .hbm, ⟨7, _⟩ => ⟨S64x128, .f32⟩
  | .hbm, ⟨8, _⟩ => ⟨S64, .f32⟩
  | .hbm, ⟨9, _⟩ => ⟨S2x64, .f32⟩
  | .hbm, ⟨10, _⟩ => ⟨S2, .f32⟩
  | .hbm, ⟨11, _⟩ => ⟨S1024, .f32⟩
  | .hbm, ⟨12, _⟩ => ⟨S1024, .f32⟩
  | .local _ .vmem, ⟨0, _⟩ => ⟨S1024x20, .i32⟩
  | .local _ .vmem, ⟨1, _⟩ => ⟨S4x128, .f32⟩
  | .local _ .vmem, ⟨2, _⟩ => ⟨S2x3, .f32⟩
  | .local _ .vmem, ⟨3, _⟩ => ⟨S2x128, .f32⟩
  | .local _ .vmem, ⟨4, _⟩ => ⟨S2x128, .f32⟩
  | .local _ .vmem, ⟨5, _⟩ => ⟨S128x512, .f32⟩
  | .local _ .vmem, ⟨6, _⟩ => ⟨S128, .f32⟩
  | .local _ .vmem, ⟨7, _⟩ => ⟨S64x128, .f32⟩
  | .local _ .vmem, ⟨8, _⟩ => ⟨S64, .f32⟩
  | .local _ .vmem, ⟨9, _⟩ => ⟨S2x64, .f32⟩
  | .local _ .vmem, ⟨10, _⟩ => ⟨S2, .f32⟩
  | .local _ .vmem, ⟨11, _⟩ => ⟨S1024, .f32⟩
  | .local _ .vmem, ⟨12, _⟩ => ⟨S1024, .f32⟩
  | .local _ .vmem, ⟨13, _⟩ => ⟨S32x1024, .f32⟩
  | _, _ => ⟨S1024x20, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_scratch0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := .none

abbrev stage0_0 : Fin 1 → Memref sig .tc .vmem S1024x20 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x3 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== ReferenceIdeal.lean ====
abbrev S1024x20 : Shape := ⟨2, ![1024, 20]⟩
abbrev S4x128 : Shape := ⟨2, ![4, 128]⟩
abbrev S2x3 : Shape := ⟨2, ![2, 3]⟩
abbrev S2x128 : Shape := ⟨2, ![2, 128]⟩
abbrev S128x512 : Shape := ⟨2, ![128, 512]⟩
abbrev S128 : Shape := ⟨1, ![128]⟩
abbrev S64x128 : Shape := ⟨2, ![64, 128]⟩
abbrev S64 : Shape := ⟨1, ![64]⟩
abbrev S2x64 : Shape := ⟨2, ![2, 64]⟩
abbrev S2 : Shape := ⟨1, ![2]⟩
abbrev S1x4x128 : Shape := ⟨3, ![1, 4, 128]⟩
abbrev S1024x4x128 : Shape := ⟨3, ![1024, 4, 128]⟩
abbrev S_ : Shape := ⟨0, ![]⟩
abbrev S1024x1 : Shape := ⟨2, ![1024, 1]⟩
abbrev S1x3 : Shape := ⟨2, ![1, 3]⟩
abbrev S1024x1x128 : Shape := ⟨3, ![1024, 1, 128]⟩
abbrev S1024x128 : Shape := ⟨2, ![1024, 128]⟩
abbrev S1x1 : Shape := ⟨2, ![1, 1]⟩
abbrev S1x128 : Shape := ⟨2, ![1, 128]⟩
abbrev S1024x4 : Shape := ⟨2, ![1024, 4]⟩
abbrev S1024x4x1 : Shape := ⟨3, ![1024, 4, 1]⟩
abbrev S1x1x128 : Shape := ⟨3, ![1, 1, 128]⟩
abbrev S1024x512 : Shape := ⟨2, ![1024, 512]⟩
abbrev S512x128 : Shape := ⟨2, ![512, 128]⟩
abbrev S128x64 : Shape := ⟨2, ![128, 64]⟩
abbrev S1024x64 : Shape := ⟨2, ![1024, 64]⟩
abbrev S1x64 : Shape := ⟨2, ![1, 64]⟩
abbrev S64x2 : Shape := ⟨2, ![64, 2]⟩
abbrev S1024x2 : Shape := ⟨2, ![1024, 2]⟩
abbrev S1x2 : Shape := ⟨2, ![1, 2]⟩
abbrev S1024 : Shape := ⟨1, ![1024]⟩

abbrev nBuf : Space → Nat
  | .hbm => 239
  | .vmem => 0
  | .smem => 0
  | _ => 0

abbrev hbmTy0_0 (i : Nat) : BufTy := match i % 128 with
  | 0 => ⟨S1024x20, .i32⟩
  | 1 => ⟨S4x128, .f32⟩
  | 2 => ⟨S2x3, .f32⟩
  | 3 => ⟨S2x128, .f32⟩
  | 4 => ⟨S2x128, .f32⟩
  | 5 => ⟨S128x512, .f32⟩
  | 6 => ⟨S128, .f32⟩
  | 7 => ⟨S64x128, .f32⟩
  | 8 => ⟨S64, .f32⟩
  | 9 => ⟨S2x64, .f32⟩
  | 10 => ⟨S2, .f32⟩
  | 11 => ⟨S1x4x128, .f32⟩
  | 12 => ⟨S1024x4x128, .f32⟩
  | 13 => ⟨S_, .i32⟩
  | 14 => ⟨S_, .i32⟩
  | 15 => ⟨S1024x20, .i32⟩
  | 16 => ⟨S2x3, .f32⟩
  | 17 => ⟨S2x128, .f32⟩
  | 18 => ⟨S2x128, .f32⟩
  | 19 => ⟨S_, .i32⟩
  | 20 => ⟨S_, .i32⟩
  | 21 => ⟨S1024x4x128, .f32⟩
  | 22 => ⟨S_, .i32⟩
  | 23 => ⟨S_, .i1⟩
  | 24 => ⟨S_, .i32⟩
  | 25 => ⟨S_, .i32⟩
  | 26 => ⟨S_, .i32⟩
  | 27 => ⟨S_, .i32⟩
  | 28 => ⟨S_, .i32⟩
  | 29 => ⟨S_, .i32⟩
  | 30 => ⟨S_, .i32⟩
  | 31 => ⟨S_, .i1⟩
  | 32 => ⟨S_, .i32⟩
  | 33 => ⟨S_, .i32⟩
  | 34 => ⟨S_, .i32⟩
  | 35 => ⟨S_, .i32⟩
  | 36 => ⟨S_, .i32⟩
  | 37 => ⟨S1024x1, .i32⟩
  | 38 => ⟨S_, .i32⟩
  | 39 => ⟨S_, .i1⟩
  | 40 => ⟨S_, .i32⟩
  | 41 => ⟨S_, .i32⟩
  | 42 => ⟨S_, .i32⟩
  | 43 => ⟨S_, .i32⟩
  | 44 => ⟨S_, .i32⟩
  | 45 => ⟨S1x3, .f32⟩
  | 46 => ⟨S1024x1x128, .f32⟩
  | 47 => ⟨S1024x128, .f32⟩
  | 48 => ⟨S1024x1x128, .f32⟩
  | 49 => ⟨S1024x128, .f32⟩
  | 50 => ⟨S1024x1x128, .f32⟩
  | 51 => ⟨S1024x128, .f32⟩
  | 52 => ⟨S1024x1x128, .f32⟩
  | 53 => ⟨S1024x128, .f32⟩
  | 54 => ⟨S_, .i32⟩
  | 55 => ⟨S1024x1, .i32⟩
  | 56 => ⟨S1024x1, .i1⟩
  | 57 => ⟨S1024x1, .i32⟩
  | 58 => ⟨S_, .i32⟩
  | 59 => ⟨S1024x1, .i32⟩
  | 60 => ⟨S1024x1, .i32⟩
  | 61 => ⟨S_, .i32⟩
  | 62 => ⟨S1024x1, .i32⟩
  | 63 => ⟨S1024x1, .i1⟩
  | 64 => ⟨S1024x1, .i1⟩
  | 65 => ⟨S1x1, .f32⟩
  | 66 => ⟨S1024x1, .i32⟩
  | 67 => ⟨S1024x1, .f32⟩
  | 68 => ⟨S1024x1, .f32⟩
  | 69 => ⟨S1024x1, .f32⟩
  | 70 => ⟨S1024x1, .f32⟩
  | 71 => ⟨S1024x1, .f32⟩
  | 72 => ⟨S1024x128, .f32⟩
  | 73 => ⟨S1024x128, .f32⟩
  | 74 => ⟨S1024x128, .f32⟩
  | 75 => ⟨S1024x128, .f32⟩
  | 76 => ⟨S1024x128, .f32⟩
  | 77 => ⟨S1024x128, .f32⟩
  | 78 => ⟨S1024x128, .f32⟩
  | 79 => ⟨S1024x128, .f32⟩
  | 80 => ⟨S1024x128, .f32⟩
  | 81 => ⟨S1024x128, .f32⟩
  | 82 => ⟨S1024x128, .i1⟩
  | 83 => ⟨S1024x128, .f32⟩
  | 84 => ⟨S1024x128, .i1⟩
  | 85 => ⟨S1024x128, .f32⟩
  | 86 => ⟨S_, .i32⟩
  | 87 => ⟨S1024x1, .i32⟩
  | 88 => ⟨S1024x1, .i1⟩
  | 89 => ⟨S1024x1, .i32⟩
  | 90 => ⟨S_, .i32⟩
  | 91 => ⟨S1024x1, .i32⟩
  | 92 => ⟨S1024x1, .i32⟩
  | 93 => ⟨S_, .i32⟩
  | 94 => ⟨S1024x1, .i32⟩
  | 95 => ⟨S1024x1, .i1⟩
  | 96 => ⟨S1024x1, .i1⟩
  | 97 => ⟨S1x1, .f32⟩
  | 98 => ⟨S1024x1, .i32⟩
  | 99 => ⟨S1024x1, .f32⟩
  | 100 => ⟨S1024x1, .f32⟩
  | 101 => ⟨S1024x1, .f32⟩
  | 102 => ⟨S1024x1, .f32⟩
  | 103 => ⟨S1024x1, .f32⟩
  | 104 => ⟨S1024x128, .f32⟩
  | 105 => ⟨S1024x128, .f32⟩
  | 106 => ⟨S1024x128, .f32⟩
  | 107 => ⟨S1024x128, .f32⟩
  | 108 => ⟨S1024x128, .f32⟩
  | 109 => ⟨S1024x128, .f32⟩
  | 110 => ⟨S1024x128, .f32⟩
  | 111 => ⟨S1024x128, .f32⟩
  | 112 => ⟨S1024x128, .f32⟩
  | 113 => ⟨S1024x128, .f32⟩
  | 114 => ⟨S1024x128, .i1⟩
  | 115 => ⟨S1024x128, .f32⟩
  | 116 => ⟨S1024x128, .i1⟩
  | 117 => ⟨S1024x128, .f32⟩
  | 118 => ⟨S_, .i32⟩
  | 119 => ⟨S1024x1, .i32⟩
  | 120 => ⟨S1024x1, .i1⟩
  | 121 => ⟨S1024x1, .i32⟩
  | 122 => ⟨S_, .i32⟩
  | 123 => ⟨S1024x1, .i32⟩
  | 124 => ⟨S1024x1, .i32⟩
  | 125 => ⟨S_, .i32⟩
  | 126 => ⟨S1024x1, .i32⟩
  | 127 => ⟨S1024x1, .i1⟩
  | _ => ⟨S1024x20, .i32⟩

abbrev hbmTy0_1 (i : Nat) : BufTy := match i % 128 with
  | 0 => ⟨S1024x1, .i1⟩
  | 1 => ⟨S1x1, .f32⟩
  | 2 => ⟨S1024x1, .i32⟩
  | 3 => ⟨S1024x1, .f32⟩
  | 4 => ⟨S1024x1, .f32⟩
  | 5 => ⟨S1024x1, .f32⟩
  | 6 => ⟨S1024x1, .f32⟩
  | 7 => ⟨S1024x1, .f32⟩
  | 8 => ⟨S1024x128, .f32⟩
  | 9 => ⟨S1024x128, .f32⟩
  | 10 => ⟨S1024x128, .f32⟩
  | 11 => ⟨S1024x128, .f32⟩
  | 12 => ⟨S1024x128, .f32⟩
  | 13 => ⟨S1024x128, .f32⟩
  | 14 => ⟨S1024x128, .f32⟩
  | 15 => ⟨S1024x128, .f32⟩
  | 16 => ⟨S1024x128, .f32⟩
  | 17 => ⟨S1024x128, .f32⟩
  | 18 => ⟨S1024x128, .i1⟩
  | 19 => ⟨S1024x128, .f32⟩
  | 20 => ⟨S1024x128, .i1⟩
  | 21 => ⟨S1024x128, .f32⟩
  | 22 => ⟨S1024x1x128, .f32⟩
  | 23 => ⟨S1024x1x128, .f32⟩
  | 24 => ⟨S1024x1x128, .f32⟩
  | 25 => ⟨S1024x1x128, .f32⟩
  | 26 => ⟨S1024x4x128, .f32⟩
  | 27 => ⟨S_, .i32⟩
  | 28 => ⟨S_, .i1⟩
  | 29 => ⟨S_, .i32⟩
  | 30 => ⟨S_, .i32⟩
  | 31 => ⟨S_, .i32⟩
  | 32 => ⟨S_, .i32⟩
  | 33 => ⟨S_, .i32⟩
  | 34 => ⟨S1x128, .f32⟩
  | 35 => ⟨S_, .i32⟩
  | 36 => ⟨S_, .i1⟩
  | 37 => ⟨S_, .i32⟩
  | 38 => ⟨S_, .i32⟩
  | 39 => ⟨S_, .i32⟩
  | 40 => ⟨S_, .i32⟩
  | 41 => ⟨S_, .i32⟩
  | 42 => ⟨S1x128, .f32⟩
  | 43 => ⟨S_, .f32⟩
  | 44 => ⟨S1024x4, .f32⟩
  | 45 => ⟨S1024x4x1, .f32⟩
  | 46 => ⟨S_, .f32⟩
  | 47 => ⟨S1024x4x1, .f32⟩
  | 48 => ⟨S1024x4x1, .f32⟩
  | 49 => ⟨S1024x4x128, .f32⟩
  | 50 => ⟨S1024x4x128, .f32⟩
  | 51 => ⟨S1024x4x128, .f32⟩
  | 52 => ⟨S_, .f32⟩
  | 53 => ⟨S1024x4, .f32⟩
  | 54 => ⟨S1024x4x1, .f32⟩
  | 55 => ⟨S_, .f32⟩
  | 56 => ⟨S1024x4x1, .f32⟩
  | 57 => ⟨S1024x4x1, .f32⟩
  | 58 => ⟨S1024x4x128, .f32⟩
  | 59 => ⟨S1024x4x128, .f32⟩
  | 60 => ⟨S_, .f32⟩
  | 61 => ⟨S1024x4x1, .f32⟩
  | 62 => ⟨S1024x4x1, .f32⟩
  | 63 => ⟨S1024x4x1, .f32⟩
  | 64 => ⟨S1024x4x128, .f32⟩
  | 65 => ⟨S1024x4x128, .f32⟩
  | 66 => ⟨S1x1x128, .f32⟩
  | 67 => ⟨S1024x4x128, .f32⟩
  | 68 => ⟨S1024x4x128, .f32⟩
  | 69 => ⟨S1x1x128, .f32⟩
  | 70 => ⟨S1024x4x128, .f32⟩
  | 71 => ⟨S1024x4x128, .f32⟩
  | 72 => ⟨S_, .i32⟩
  | 73 => ⟨S_, .i1⟩
  | 74 => ⟨S1024x4x128, .f32⟩
  | 75 => ⟨S_, .i32⟩
  | 76 => ⟨S_, .i32⟩
  | 77 => ⟨S1024x512, .f32⟩
  | 78 => ⟨S512x128, .f32⟩
  | 79 => ⟨S1024x128, .f32⟩
  | 80 => ⟨S1x128, .f32⟩
  | 81 => ⟨S1024x128, .f32⟩
  | 82 => ⟨S1024x128, .f32⟩
  | 83 => ⟨S_, .f32⟩
  | 84 => ⟨S1024x128, .f32⟩
  | 85 => ⟨S1024x128, .f32⟩
  | 86 => ⟨S128x64, .f32⟩
  | 87 => ⟨S1024x64, .f32⟩
  | 88 => ⟨S1x64, .f32⟩
  | 89 => ⟨S1024x64, .f32⟩
  | 90 => ⟨S1024x64, .f32⟩
  | 91 => ⟨S_, .f32⟩
  | 92 => ⟨S1024x64, .f32⟩
  | 93 => ⟨S1024x64, .f32⟩
  | 94 => ⟨S64x2, .f32⟩
  | 95 => ⟨S1024x2, .f32⟩
  | 96 => ⟨S1x2, .f32⟩
  | 97 => ⟨S1024x2, .f32⟩
  | 98 => ⟨S1024x2, .f32⟩
  | 99 => ⟨S1024x1, .f32⟩
  | 100 => ⟨S1024, .f32⟩
  | 101 => ⟨S1024, .f32⟩
  | 102 => ⟨S1024, .f32⟩
  | 103 => ⟨S_, .f32⟩
  | 104 => ⟨S1024, .f32⟩
  | 105 => ⟨S1024, .f32⟩
  | 106 => ⟨S_, .f32⟩
  | 107 => ⟨S1024, .f32⟩
  | 108 => ⟨S1024, .f32⟩
  | 109 => ⟨S1024x1, .f32⟩
  | 110 => ⟨S1024, .f32⟩
  | _ => ⟨S1024x20, .i32⟩

abbrev hbmTy (i : Nat) : BufTy := match i / 128 with
  | 0 => hbmTy0_0 i
  | 1 => hbmTy0_1 i
  | _ => ⟨S1024x20, .i32⟩

abbrev bufTy : (tb : Table) → Fin (tcTables nBuf tb) → BufTy
  | .hbm, ⟨i, _⟩ => hbmTy i
  | _, _ => ⟨S1024x20, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_c_0 : Ref sig .tc := ⟨.hbm, 14, rfl⟩
abbrev main_v2_0 : Ref sig .tc := ⟨.hbm, 15, rfl⟩
abbrev main_v2_1 : Ref sig .tc := ⟨.hbm, 16, rfl⟩
abbrev main_v2_2 : Ref sig .tc := ⟨.hbm, 17, rfl⟩
abbrev main_v2_3 : Ref sig .tc := ⟨.hbm, 18, rfl⟩
abbrev main_v2_4 : Ref sig .tc := ⟨.hbm, 19, rfl⟩
abbrev main_v2_5 : Ref sig .tc := ⟨.hbm, 20, rfl⟩
abbrev main_v2_6 : Ref sig .tc := ⟨.hbm, 21, rfl⟩
abbrev main_while0c_c_10 : Ref sig .tc := ⟨.hbm, 22, rfl⟩
abbrev main_while0c_v33 : Ref sig .tc := ⟨.hbm, 23, rfl⟩
abbrev main_while0b_c_10 : Ref sig .tc := ⟨.hbm, 24, rfl⟩
abbrev main_while0b_v33 : Ref sig .tc := ⟨.hbm, 25, rfl⟩
abbrev main_while0b_c_11 : Ref sig .tc := ⟨.hbm, 26, rfl⟩
abbrev main_while0b_v34 : Ref sig .tc := ⟨.hbm, 27, rfl⟩
abbrev main_while0b_c_12 : Ref sig .tc := ⟨.hbm, 28, rfl⟩
abbrev main_while0b_v35 : Ref sig .tc := ⟨.hbm, 29, rfl⟩
abbrev main_while0b_c_13 : Ref sig .tc := ⟨.hbm, 30, rfl⟩
abbrev main_while0b_v36 : Ref sig .tc := ⟨.hbm, 31, rfl⟩
abbrev main_while0b_v37 : Ref sig .tc := ⟨.hbm, 32, rfl⟩
abbrev main_while0b_c_14 : Ref sig .tc := ⟨.hbm, 33, rfl⟩
abbrev main_while0b_v38 : Ref sig .tc := ⟨.hbm, 34, rfl⟩
abbrev main_while0b_v39 : Ref sig .tc := ⟨.hbm, 35, rfl⟩
abbrev main_while0b_c_15 : Ref sig .tc := ⟨.hbm, 36, rfl⟩
abbrev main_while0b_v40 : Ref sig .tc := ⟨.hbm, 37, rfl⟩
abbrev main_while0b_c_16 : Ref sig .tc := ⟨.hbm, 38, rfl⟩
abbrev main_while0b_v41 : Ref sig .tc := ⟨.hbm, 39, rfl⟩
abbrev main_while0b_v42 : Ref sig .tc := ⟨.hbm, 40, rfl⟩
abbrev main_while0b_c_17 : Ref sig .tc := ⟨.hbm, 41, rfl⟩
abbrev main_while0b_v43 : Ref sig .tc := ⟨.hbm, 42, rfl⟩
abbrev main_while0b_v44 : Ref sig .tc := ⟨.hbm, 43, rfl⟩
abbrev main_while0b_c_18 : Ref sig .tc := ⟨.hbm, 44, rfl⟩
abbrev main_while0b_v45 : Ref sig .tc := ⟨.hbm, 45, rfl⟩
abbrev main_while0b_v46 : Ref sig .tc := ⟨.hbm, 46, rfl⟩
abbrev main_while0b_v47 : Ref sig .tc := ⟨.hbm, 47, rfl⟩
abbrev main_while0b_v48 : Ref sig .tc := ⟨.hbm, 48, rfl⟩
abbrev main_while0b_v49 : Ref sig .tc := ⟨.hbm, 49, rfl⟩
abbrev main_while0b_v50 : Ref sig .tc := ⟨.hbm, 50, rfl⟩
abbrev main_while0b_v51 : Ref sig .tc := ⟨.hbm, 51, rfl⟩
abbrev main_while0b_v52 : Ref sig .tc := ⟨.hbm, 52, rfl⟩
abbrev main_while0b_v53 : Ref sig .tc := ⟨.hbm, 53, rfl⟩
abbrev main_while0b_c_19 : Ref sig .tc := ⟨.hbm, 54, rfl⟩
abbrev main_while0b_v54 : Ref sig .tc := ⟨.hbm, 55, rfl⟩
abbrev main_while0b_v55 : Ref sig .tc := ⟨.hbm, 56, rfl⟩
abbrev main_while0b_v56 : Ref sig .tc := ⟨.hbm, 57, rfl⟩
abbrev main_while0b_c_20 : Ref sig .tc := ⟨.hbm, 58, rfl⟩
abbrev main_while0b_v57 : Ref sig .tc := ⟨.hbm, 59, rfl⟩
abbrev main_while0b_v58 : Ref sig .tc := ⟨.hbm, 60, rfl⟩
abbrev main_while0b_c_21 : Ref sig .tc := ⟨.hbm, 61, rfl⟩
abbrev main_while0b_v59 : Ref sig .tc := ⟨.hbm, 62, rfl⟩
abbrev main_while0b_v60 : Ref sig .tc := ⟨.hbm, 63, rfl⟩
abbrev main_while0b_v61 : Ref sig .tc := ⟨.hbm, 64, rfl⟩
abbrev main_while0b_v62 : Ref sig .tc := ⟨.hbm, 65, rfl⟩
abbrev main_while0b_v63 : Ref sig .tc := ⟨.hbm, 66, rfl⟩
abbrev main_while0b_v64 : Ref sig .tc := ⟨.hbm, 67, rfl⟩
abbrev main_while0b_v65 : Ref sig .tc := ⟨.hbm, 68, rfl⟩
abbrev main_while0b_v66 : Ref sig .tc := ⟨.hbm, 69, rfl⟩
abbrev main_while0b_v67 : Ref sig .tc := ⟨.hbm, 70, rfl⟩
abbrev main_while0b_v68 : Ref sig .tc := ⟨.hbm, 71, rfl⟩
abbrev main_while0b_v69 : Ref sig .tc := ⟨.hbm, 72, rfl⟩
abbrev main_while0b_v70 : Ref sig .tc := ⟨.hbm, 73, rfl⟩
abbrev main_while0b_v71 : Ref sig .tc := ⟨.hbm, 74, rfl⟩
abbrev main_while0b_v72 : Ref sig .tc := ⟨.hbm, 75, rfl⟩
abbrev main_while0b_v73 : Ref sig .tc := ⟨.hbm, 76, rfl⟩
abbrev main_while0b_v74 : Ref sig .tc := ⟨.hbm, 77, rfl⟩
abbrev main_while0b_v75 : Ref sig .tc := ⟨.hbm, 78, rfl⟩
abbrev main_while0b_v76 : Ref sig .tc := ⟨.hbm, 79, rfl⟩
abbrev main_while0b_v77 : Ref sig .tc := ⟨.hbm, 80, rfl⟩
abbrev main_while0b_v78 : Ref sig .tc := ⟨.hbm, 81, rfl⟩
abbrev main_while0b_call0_v0 : Ref sig .tc := ⟨.hbm, 82, rfl⟩
abbrev main_while0b_v79 : Ref sig .tc := ⟨.hbm, 83, rfl⟩
abbrev main_while0b_call1_v0 : Ref sig .tc := ⟨.hbm, 84, rfl⟩
abbrev main_while0b_v80 : Ref sig .tc := ⟨.hbm, 85, rfl⟩
abbrev main_while0b_c_22 : Ref sig .tc := ⟨.hbm, 86, rfl⟩
abbrev main_while0b_v81 : Ref sig .tc := ⟨.hbm, 87, rfl⟩
abbrev main_while0b_v82 : Ref sig .tc := ⟨.hbm, 88, rfl⟩
abbrev main_while0b_v83 : Ref sig .tc := ⟨.hbm, 89, rfl⟩
abbrev main_while0b_c_23 : Ref sig .tc := ⟨.hbm, 90, rfl⟩
abbrev main_while0b_v84 : Ref sig .tc := ⟨.hbm, 91, rfl⟩
abbrev main_while0b_v85 : Ref sig .tc := ⟨.hbm, 92, rfl⟩
abbrev main_while0b_c_24 : Ref sig .tc := ⟨.hbm, 93, rfl⟩
abbrev main_while0b_v86 : Ref sig .tc := ⟨.hbm, 94, rfl⟩
abbrev main_while0b_v87 : Ref sig .tc := ⟨.hbm, 95, rfl⟩
abbrev main_while0b_v88 : Ref sig .tc := ⟨.hbm, 96, rfl⟩
abbrev main_while0b_v89 : Ref sig .tc := ⟨.hbm, 97, rfl⟩
abbrev main_while0b_v90 : Ref sig .tc := ⟨.hbm, 98, rfl⟩
abbrev main_while0b_v91 : Ref sig .tc := ⟨.hbm, 99, rfl⟩
abbrev main_while0b_v92 : Ref sig .tc := ⟨.hbm, 100, rfl⟩
abbrev main_while0b_v93 : Ref sig .tc := ⟨.hbm, 101, rfl⟩
abbrev main_while0b_v94 : Ref sig .tc := ⟨.hbm, 102, rfl⟩
abbrev main_while0b_v95 : Ref sig .tc := ⟨.hbm, 103, rfl⟩
abbrev main_while0b_v96 : Ref sig .tc := ⟨.hbm, 104, rfl⟩
abbrev main_while0b_v97 : Ref sig .tc := ⟨.hbm, 105, rfl⟩
abbrev main_while0b_v98 : Ref sig .tc := ⟨.hbm, 106, rfl⟩
abbrev main_while0b_v99 : Ref sig .tc := ⟨.hbm, 107, rfl⟩
abbrev main_while0b_v100 : Ref sig .tc := ⟨.hbm, 108, rfl⟩
abbrev main_while0b_v101 : Ref sig .tc := ⟨.hbm, 109, rfl⟩
abbrev main_while0b_v102 : Ref sig .tc := ⟨.hbm, 110, rfl⟩
abbrev main_while0b_v103 : Ref sig .tc := ⟨.hbm, 111, rfl⟩
abbrev main_while0b_v104 : Ref sig .tc := ⟨.hbm, 112, rfl⟩
abbrev main_while0b_v105 : Ref sig .tc := ⟨.hbm, 113, rfl⟩
abbrev main_while0b_call2_v0 : Ref sig .tc := ⟨.hbm, 114, rfl⟩
abbrev main_while0b_v106 : Ref sig .tc := ⟨.hbm, 115, rfl⟩
abbrev main_while0b_call3_v0 : Ref sig .tc := ⟨.hbm, 116, rfl⟩
abbrev main_while0b_v107 : Ref sig .tc := ⟨.hbm, 117, rfl⟩
abbrev main_while0b_c_25 : Ref sig .tc := ⟨.hbm, 118, rfl⟩
abbrev main_while0b_v108 : Ref sig .tc := ⟨.hbm, 119, rfl⟩
abbrev main_while0b_v109 : Ref sig .tc := ⟨.hbm, 120, rfl⟩
abbrev main_while0b_v110 : Ref sig .tc := ⟨.hbm, 121, rfl⟩
abbrev main_while0b_c_26 : Ref sig .tc := ⟨.hbm, 122, rfl⟩
abbrev main_while0b_v111 : Ref sig .tc := ⟨.hbm, 123, rfl⟩
abbrev main_while0b_v112 : Ref sig .tc := ⟨.hbm, 124, rfl⟩
abbrev main_while0b_c_27 : Ref sig .tc := ⟨.hbm, 125, rfl⟩
abbrev main_while0b_v113 : Ref sig .tc := ⟨.hbm, 126, rfl⟩
abbrev main_while0b_v114 : Ref sig .tc := ⟨.hbm, 127, rfl⟩
abbrev main_while0b_v115 : Ref sig .tc := ⟨.hbm, 128, rfl⟩
abbrev main_while0b_v116 : Ref sig .tc := ⟨.hbm, 129, rfl⟩
abbrev main_while0b_v117 : Ref sig .tc := ⟨.hbm, 130, rfl⟩
abbrev main_while0b_v118 : Ref sig .tc := ⟨.hbm, 131, rfl⟩
abbrev main_while0b_v119 : Ref sig .tc := ⟨.hbm, 132, rfl⟩
abbrev main_while0b_v120 : Ref sig .tc := ⟨.hbm, 133, rfl⟩
abbrev main_while0b_v121 : Ref sig .tc := ⟨.hbm, 134, rfl⟩
abbrev main_while0b_v122 : Ref sig .tc := ⟨.hbm, 135, rfl⟩
abbrev main_while0b_v123 : Ref sig .tc := ⟨.hbm, 136, rfl⟩
abbrev main_while0b_v124 : Ref sig .tc := ⟨.hbm, 137, rfl⟩
abbrev main_while0b_v125 : Ref sig .tc := ⟨.hbm, 138, rfl⟩
abbrev main_while0b_v126 : Ref sig .tc := ⟨.hbm, 139, rfl⟩
abbrev main_while0b_v127 : Ref sig .tc := ⟨.hbm, 140, rfl⟩
abbrev main_while0b_v128 : Ref sig .tc := ⟨.hbm, 141, rfl⟩
abbrev main_while0b_v129 : Ref sig .tc := ⟨.hbm, 142, rfl⟩
abbrev main_while0b_v130 : Ref sig .tc := ⟨.hbm, 143, rfl⟩
abbrev main_while0b_v131 : Ref sig .tc := ⟨.hbm, 144, rfl⟩
abbrev main_while0b_v132 : Ref sig .tc := ⟨.hbm, 145, rfl⟩
abbrev main_while0b_call4_v0 : Ref sig .tc := ⟨.hbm, 146, rfl⟩
abbrev main_while0b_v133 : Ref sig .tc := ⟨.hbm, 147, rfl⟩
abbrev main_while0b_call5_v0 : Ref sig .tc := ⟨.hbm, 148, rfl⟩
abbrev main_while0b_v134 : Ref sig .tc := ⟨.hbm, 149, rfl⟩
abbrev main_while0b_v135 : Ref sig .tc := ⟨.hbm, 150, rfl⟩
abbrev main_while0b_v136 : Ref sig .tc := ⟨.hbm, 151, rfl⟩
abbrev main_while0b_v137 : Ref sig .tc := ⟨.hbm, 152, rfl⟩
abbrev main_while0b_v138 : Ref sig .tc := ⟨.hbm, 153, rfl⟩
abbrev main_while0b_v139 : Ref sig .tc := ⟨.hbm, 154, rfl⟩
abbrev main_while0b_c_28 : Ref sig .tc := ⟨.hbm, 155, rfl⟩
abbrev main_while0b_v140 : Ref sig .tc := ⟨.hbm, 156, rfl⟩
abbrev main_while0b_v141 : Ref sig .tc := ⟨.hbm, 157, rfl⟩
abbrev main_while0b_c_29 : Ref sig .tc := ⟨.hbm, 158, rfl⟩
abbrev main_while0b_v142 : Ref sig .tc := ⟨.hbm, 159, rfl⟩
abbrev main_while0b_v143 : Ref sig .tc := ⟨.hbm, 160, rfl⟩
abbrev main_while0b_c_30 : Ref sig .tc := ⟨.hbm, 161, rfl⟩
abbrev main_while0b_v144 : Ref sig .tc := ⟨.hbm, 162, rfl⟩
abbrev main_while0b_c_31 : Ref sig .tc := ⟨.hbm, 163, rfl⟩
abbrev main_while0b_v145 : Ref sig .tc := ⟨.hbm, 164, rfl⟩
abbrev main_while0b_v146 : Ref sig .tc := ⟨.hbm, 165, rfl⟩
abbrev main_while0b_c_32 : Ref sig .tc := ⟨.hbm, 166, rfl⟩
abbrev main_while0b_v147 : Ref sig .tc := ⟨.hbm, 167, rfl⟩
abbrev main_while0b_v148 : Ref sig .tc := ⟨.hbm, 168, rfl⟩
abbrev main_while0b_c_33 : Ref sig .tc := ⟨.hbm, 169, rfl⟩
abbrev main_while0b_v149 : Ref sig .tc := ⟨.hbm, 170, rfl⟩
abbrev main_while0b_cst_34 : Ref sig .tc := ⟨.hbm, 171, rfl⟩
abbrev main_while0b_v150 : Ref sig .tc := ⟨.hbm, 172, rfl⟩
abbrev main_while0b_v151 : Ref sig .tc := ⟨.hbm, 173, rfl⟩
abbrev main_while0b_cst_35 : Ref sig .tc := ⟨.hbm, 174, rfl⟩
abbrev main_while0b_v152 : Ref sig .tc := ⟨.hbm, 175, rfl⟩
abbrev main_while0b_v153 : Ref sig .tc := ⟨.hbm, 176, rfl⟩
abbrev main_while0b_v154 : Ref sig .tc := ⟨.hbm, 177, rfl⟩
abbrev main_while0b_v155 : Ref sig .tc := ⟨.hbm, 178, rfl⟩
abbrev main_while0b_v156 : Ref sig .tc := ⟨.hbm, 179, rfl⟩
abbrev main_while0b_cst_36 : Ref sig .tc := ⟨.hbm, 180, rfl⟩
abbrev main_while0b_v157 : Ref sig .tc := ⟨.hbm, 181, rfl⟩
abbrev main_while0b_v158 : Ref sig .tc := ⟨.hbm, 182, rfl⟩
abbrev main_while0b_cst_37 : Ref sig .tc := ⟨.hbm, 183, rfl⟩
abbrev main_while0b_v159 : Ref sig .tc := ⟨.hbm, 184, rfl⟩
abbrev main_while0b_v160 : Ref sig .tc := ⟨.hbm, 185, rfl⟩
abbrev main_while0b_v161 : Ref sig .tc := ⟨.hbm, 186, rfl⟩
abbrev main_while0b_v162 : Ref sig .tc := ⟨.hbm, 187, rfl⟩
abbrev main_while0b_cst_38 : Ref sig .tc := ⟨.hbm, 188, rfl⟩
abbrev main_while0b_v163 : Ref sig .tc := ⟨.hbm, 189, rfl⟩
abbrev main_while0b_v164 : Ref sig .tc := ⟨.hbm, 190, rfl⟩
abbrev main_while0b_v165 : Ref sig .tc := ⟨.hbm, 191, rfl⟩
abbrev main_while0b_v166 : Ref sig .tc := ⟨.hbm, 192, rfl⟩
abbrev main_while0b_v167 : Ref sig .tc := ⟨.hbm, 193, rfl⟩
abbrev main_while0b_v168 : Ref sig .tc := ⟨.hbm, 194, rfl⟩
abbrev main_while0b_v169 : Ref sig .tc := ⟨.hbm, 195, rfl⟩
abbrev main_while0b_v170 : Ref sig .tc := ⟨.hbm, 196, rfl⟩
abbrev main_while0b_v171 : Ref sig .tc := ⟨.hbm, 197, rfl⟩
abbrev main_while0b_v172 : Ref sig .tc := ⟨.hbm, 198, rfl⟩
abbrev main_while0b_v173 : Ref sig .tc := ⟨.hbm, 199, rfl⟩
abbrev main_while0b_c_39 : Ref sig .tc := ⟨.hbm, 200, rfl⟩
abbrev main_while0b_v174 : Ref sig .tc := ⟨.hbm, 201, rfl⟩
abbrev main_while0b_v175 : Ref sig .tc := ⟨.hbm, 202, rfl⟩
abbrev main_while0b_c_40 : Ref sig .tc := ⟨.hbm, 203, rfl⟩
abbrev main_while0b_v176 : Ref sig .tc := ⟨.hbm, 204, rfl⟩
abbrev main_v3 : Ref sig .tc := ⟨.hbm, 205, rfl⟩
abbrev main_v4 : Ref sig .tc := ⟨.hbm, 206, rfl⟩
abbrev main_v5 : Ref sig .tc := ⟨.hbm, 207, rfl⟩
abbrev main_v6 : Ref sig .tc := ⟨.hbm, 208, rfl⟩
abbrev main_v7 : Ref sig .tc := ⟨.hbm, 209, rfl⟩
abbrev main_v8 : Ref sig .tc := ⟨.hbm, 210, rfl⟩
abbrev main_cst : Ref sig .tc := ⟨.hbm, 211, rfl⟩
abbrev main_v9 : Ref sig .tc := ⟨.hbm, 212, rfl⟩
abbrev main_v10 : Ref sig .tc := ⟨.hbm, 213, rfl⟩
abbrev main_v11 : Ref sig .tc := ⟨.hbm, 214, rfl⟩
abbrev main_v12 : Ref sig .tc := ⟨.hbm, 215, rfl⟩
abbrev main_v13 : Ref sig .tc := ⟨.hbm, 216, rfl⟩
abbrev main_v14 : Ref sig .tc := ⟨.hbm, 217, rfl⟩
abbrev main_v15 : Ref sig .tc := ⟨.hbm, 218, rfl⟩
abbrev main_cst_1 : Ref sig .tc := ⟨.hbm, 219, rfl⟩
abbrev main_v16 : Ref sig .tc := ⟨.hbm, 220, rfl⟩
abbrev main_v17 : Ref sig .tc := ⟨.hbm, 221, rfl⟩
abbrev main_v18 : Ref sig .tc := ⟨.hbm, 222, rfl⟩
abbrev main_v19 : Ref sig .tc := ⟨.hbm, 223, rfl⟩
abbrev main_v20 : Ref sig .tc := ⟨.hbm, 224, rfl⟩
abbrev main_v21 : Ref sig .tc := ⟨.hbm, 225, rfl⟩
abbrev main_v22 : Ref sig .tc := ⟨.hbm, 226, rfl⟩
abbrev main_v23 : Ref sig .tc := ⟨.hbm, 227, rfl⟩
abbrev main_v24 : Ref sig .tc := ⟨.hbm, 228, rfl⟩
abbrev main_v25 : Ref sig .tc := ⟨.hbm, 229, rfl⟩
abbrev main_v26 : Ref sig .tc := ⟨.hbm, 230, rfl⟩
abbrev main_cst_2 : Ref sig .tc := ⟨.hbm, 231, rfl⟩
abbrev main_v27 : Ref sig .tc := ⟨.hbm, 232, rfl⟩
abbrev main_v28 : Ref sig .tc := ⟨.hbm, 233, rfl⟩
abbrev main_cst_3 : Ref sig .tc := ⟨.hbm, 234, rfl⟩
abbrev main_v29 : Ref sig .tc := ⟨.hbm, 235, rfl⟩
abbrev main_v30 : Ref sig .tc := ⟨.hbm, 236, rfl⟩
abbrev main_v31 : Ref sig .tc := ⟨.hbm, 237, rfl⟩
abbrev main_v32 : Ref sig .tc := ⟨.hbm, 238, rfl⟩

abbrev nD : Nat := 1
abbrev τ : Topo := Topo.v7x

variable {F : FTy → Type} [FloatOps F]

abbrev main_while0_count : Scf.Loop 32 := ⟨0#32, 40#32, 1#32⟩
-- ==== Proof.Rotations.lean ====
/- The kernel's 60 rotations of its 32 x 1024 scratch, as one recursive function of the rotation's number. -/
module

public import proofs.«01_k».proof.Proof.Gen.KernelIdeal.Frame

@[expose] public section

noncomputable section

namespace Cert.Rotations

open Cert.KernelIdeal Cert.KernelIdeal.Gen Idealize.ShloMosaic Idealize.ShloMosaic.TcCoe

variable {F : FTy → Type} [FloatOps F]

/-- Every step's row of braids can be cut out. -/
theorem row_slices (t : Fin 20) : S20x1024.Slices ![t.val, 0] S1x1024 := by
  revert t; decide

/-- The generators of step `t`, one for each batch entry. -/
def genRow (v : IVec S20x1024 32) (t : Fin 20) : IVec S1x1024 32 := extractStridedSlice S1x1024 ![t.val, 0] v (row_slices t)

/-- The mask of the batch entries whose generator has absolute value `w`. -/
def mask (g : IVec S1x1024 32) (w : BitVec 32) : IVec S8x1024 1 :=
  broadcastTo S8x1024 (shapeCast S1x1024 (cmpi .eq (absi g) (broadcast S1x1024 w)) shapeCasts_S1x1024_S1x1024) broadcasts_S1x1024_S8x1024

/-- The cosine factor: one where the mask is off. -/
def cosFactor (c8 : FVec F S8x1 .f32) (g : IVec S1x1024 32) (w : BitVec 32) : FVec F S8x1024 .f32 :=
  select (mask g w) (broadcastTo S8x1024 (shapeCast S8x1 c8 shapeCasts_S8x1_S8x1) broadcasts_S8x1_S8x1024)
    (broadcast S8x1024 (Scalar.ofBits .f32 0x3F800000#32))

/-- The signed sine factor: zero where the mask is off. -/
def sinFactor (s8 : FVec F S8x1 .f32) (g : IVec S1x1024 32) (w : BitVec 32) : FVec F S8x1024 .f32 :=
  select (mask g w)
    (mulf (broadcastTo S8x1024 (select (cmpi .sgt g (broadcast S1x1024 0#32)) (broadcast S1x1024 (Scalar.ofBits .f32 0x3F800000#32))
      (broadcast S1x1024 (Scalar.ofBits .f32 0xBF800000#32) : FVec F S1x1024 .f32)) broadcasts_S1x1024_S8x1024)
      (broadcastTo S8x1024 s8 broadcasts_S8x1_S8x1024))
    (broadcast S8x1024 (Scalar.ofBits .f32 0x00000000#32))

/-- The upper strand after a rotation. -/
def upper (c s u v : FVec F S8x1024 .f32) : FVec F S8x1024 .f32 :=
  shapeCast S8x1024 (subf (mulf c u) (mulf s v)) shapeCasts_S8x1024_S8x1024

/-- The lower strand after a rotation. -/
def lower (c s u v : FVec F S8x1024 .f32) : FVec F S8x1024 .f32 :=
  shapeCast S8x1024 (addf (mulf s u) (mulf c v)) shapeCasts_S8x1024_S8x1024

/-- Every strand lies within the scratch. -/
theorem inb (o : Fin 4) : ∀ a, (![8 * o.val, 0] : Fin 2 → ℕ) a + S8x1024.size a ≤ S32x1024.size a := by
  revert o; decide

/-- The eight rows of strand `o`. -/
abbrev strand (o : Fin 4) : Rect S32x1024 := Rect.unit ![8 * o.val, 0] S8x1024.size (inb o)

/-- The six trigonometric columns: cosines and sines of the three angles. -/
structure Trig (F : FTy → Type) [FloatOps F] where
  cos : Fin 3 → FVec F S8x1 .f32
  sin : Fin 3 → FVec F S8x1 .f32

/-- The word a generator's absolute value is compared with at position `p`. -/
def word (p : Fin 3) : BitVec 32 := match p with | 0 => 1#32 | 1 => 2#32 | 2 => 3#32

/-- The scratch after a rotation at position `p` of step `t`. -/
def rotate (T : Trig F) (v : IVec S20x1024 32) (t : Fin 20) (p : Fin 3) (X : S32x1024.Idx → F .f32) : S32x1024.Idx → F .f32 :=
  (strand p.succ).overlay
    ((strand p.castSucc).overlay X
      (upper (cosFactor (T.cos p) (genRow v t) (word p)) (sinFactor (T.sin p) (genRow v t) (word p))
        (fun x => X ((strand p.castSucc).idx x)) (fun x => X ((strand p.succ).idx x))))
    (lower (cosFactor (T.cos p) (genRow v t) (word p)) (sinFactor (T.sin p) (genRow v t) (word p))
        (fun x => X ((strand p.castSucc).idx x)) (fun x => X ((strand p.succ).idx x)))

/-- The scratch after the rotations of a list (last first), each a step and a position. -/
def scratch (T : Trig F) (v : IVec S20x1024 32) : List (Fin 20 × Fin 3) → S32x1024.Idx → F .f32
  | [] => k0_pay6 k0_pay5 (Scalar.ofBits .f32 0x3F800000#32)
  | a :: l => rotate T v a.1 a.2 (scratch T v l)

/-- One rotation's two stores over a list of stores that leaves the scratch after the rotations `l`. -/
theorem rotation_stores (T : Trig F) (v : IVec S20x1024 32) (t : Fin 20) (p : Fin 3) (l : List (Fin 20 × Fin 3))
    {κ : Kind} {sp : Space} {sg : RefSig} (w : View sg κ sp S32x1024 .f32)
    (L : List (View.Piece (Elt F) S32x1024 .f32)) (pu pv : FVec F S8x1024 .f32)
    (hu : pu = upper (cosFactor (T.cos p) (genRow v t) (word p)) (sinFactor (T.sin p) (genRow v t) (word p))
        (w.readCov L (strand p.castSucc).toLoadRect) (w.readCov L (strand p.succ).toLoadRect))
    (hv : pv = lower (cosFactor (T.cos p) (genRow v t) (word p)) (sinFactor (T.sin p) (genRow v t) (word p))
        (w.readCov L (strand p.castSucc).toLoadRect) (w.readCov L (strand p.succ).toLoadRect))
    (hL : scratch T v l = View.canon L) :
    scratch T v ((t, p) :: l) = View.canon ((⟨strand p.succ, pv⟩ : View.Piece (Elt F) S32x1024 .f32) :: ⟨strand p.castSucc, pu⟩ :: L) := by
  subst hu hv
  rw [View.readCov_eq_canon', View.readCov_eq_canon', View.canon_cons, View.canon_cons, ← hL]
  rfl

end Cert.Rotations

end
-- ==== Proof.Stores.lean ====
/- The run's list of stores into the scratch leaves the recursive scratch. -/
module

public import proofs.«01_k».proof.Proof.Rotations
public import Idealize.ShloMosaic.Lib.Pipeline.ValueKit

@[expose] public section

set_option maxRecDepth 16384
noncomputable section

namespace Cert.Rotations

open Cert.KernelIdeal Cert.KernelIdeal.Gen Idealize.ShloMosaic Idealize.ShloMosaic.TcCoe

variable {F : FTy → Type} [FloatOps F]

/-- The kernel's rotations, last first. -/
def schedule : List (Fin 20 × Fin 3) :=
  [(19, 2), (19, 1), (19, 0), (18, 2), (18, 1), (18, 0), (17, 2), (17, 1), (17, 0), (16, 2), (16, 1), (16, 0), (15, 2), (15, 1), (15, 0), (14, 2), (14, 1), (14, 0), (13, 2), (13, 1), (13, 0), (12, 2), (12, 1), (12, 0), (11, 2), (11, 1), (11, 0), (10, 2), (10, 1), (10, 0), (9, 2), (9, 1), (9, 0), (8, 2), (8, 1), (8, 0), (7, 2), (7, 1), (7, 0), (6, 2), (6, 1), (6, 0), (5, 2), (5, 1), (5, 0), (4, 2), (4, 1), (4, 0), (3, 2), (3, 1), (3, 0), (2, 2), (2, 1), (2, 0), (1, 2), (1, 1), (1, 0), (0, 2), (0, 1), (0, 0)]

open Cert.KernelIdeal.Gen.kernelRun0_A.sl in
set_option maxHeartbeats 4000000 in
/-- The scratch after all the kernel's stores, as the run found them, is the recursive scratch. -/
theorem stores (c : Dev nD) (arg0 : Memref sig .tc .vmem S1024x20 .i32) (harg0 : arg0.IsWhole)
   (arg2 : Memref sig .tc .vmem S2x3 .f32) (harg2 : arg2.IsWhole)
   (arg13 : Memref sig .tc .vmem S32x1024 .f32)
    (x0 : Vec F S1024x20 .i32) (x2 : Vec F S2x3 .f32) :
   scratch ⟨![r_1 c arg2 harg2 x2, r_3 c arg2 harg2 x2, r_7 c arg2 harg2 x2],
     ![r_2 c arg2 harg2 x2, r_6 c arg2 harg2 x2, r_8 c arg2 harg2 x2]⟩ (r c arg0 harg0 x0) schedule = View.canon (HS0_121 c arg0 harg0 arg2 harg2 arg13 x0 x2) := by
  unfold schedule
  iterate 60
    refine rotation_stores (F := F) _ _ _ _ _ arg13.view _ _ _ ?_ ?_ ?_
    · rfl
    · rfl
  exact (View.canon_cons_unit_lit (Val := Elt F) (S := S32x1024) (e := .f32) (off := ![0, 0]) inb_S32x1024_S32x1024_0_0 ((k0_pay6 k0_pay5 (Scalar.ofBits .f32 0x3F800000#32) : FVec F S32x1024 .f32)) [] (by decide)).symm

end Cert.Rotations

end
-- ==== Proof.Layers.lean ====
/- The kernel's strands and its dense layers, written once for every strand, over the final scratch. -/
module

public import proofs.«01_k».proof.Proof.Rotations

@[expose] public section

noncomputable section

namespace Cert.Layers

open Cert.KernelIdeal Cert.KernelIdeal.Gen Idealize.ShloMosaic Idealize.ShloMosaic.TcCoe

variable {F : FTy → Type} [FloatOps F]

/-- Every row of the scratch can be cut out. -/
theorem row_slices (n : Fin 32) : S32x1024.Slices ![n.val, 0] S1x1024 := by
  revert n; decide

/-- Every column of the transposed strands can be cut out. -/
theorem column_slices (j : Fin 4) : S128x4.Slices ![0, j.val] S128x1 := by
  revert j; decide

/-- Every entry of the row of means can be cut out. -/
theorem entry_slices (j : Fin 4) : S1x4.Slices ![0, j.val] S1x1 := by
  revert j; decide

/-- The scratch's row of strand `i`, layer `l`, starting strand `j`. -/
def place (l : Fin 2) (i j : Fin 4) : Fin 32 := ⟨8 * i.val + 4 * l.val + j.val, by omega⟩

/-- That row. -/
def row (X : FVec F S32x1024 .f32) (n : Fin 32) : FVec F S1x1024 .f32 := extractStridedSlice S1x1024 ![n.val, 0] X (row_slices n)

/-- That row, over the 128 features. -/
def rows (X : FVec F S32x1024 .f32) (n : Fin 32) : FVec F S128x1024 .f32 := broadcastTo S128x1024 (row X n) broadcasts_S1x1024_S128x1024

/-- Starting strand `j` over the batch. -/
def start (x : FVec F S4x128 .f32) (j : Fin 4) : FVec F S128x1024 .f32 :=
  broadcastTo S128x1024 (extractStridedSlice S128x1 ![0, j.val] (k0_pay412 x) (column_slices j)) broadcasts_S128x1_S128x1024

/-- The mean of starting strand `j` over the batch. -/
def startMean (x : FVec F S4x128 .f32) (j : Fin 4) : FVec F S1x1024 .f32 :=
  broadcastTo S1x1024 (extractStridedSlice S1x1 ![0, j.val] (k0_pay415 (k0_pay413 x) k0_pay414) (entry_slices j)) broadcasts_S1x1_S1x1024

/-- Four strands mixed by the scratch's rows of strand `i`, layer `l`. -/
def mix (X : FVec F S32x1024 .f32) (a : Fin 4 → FVec F S128x1024 .f32) (l : Fin 2) (i : Fin 4) : FVec F S128x1024 .f32 :=
  addf (addf (addf (mulf (a 0) (rows X (place l i 0))) (mulf (a 1) (rows X (place l i 1)))) (mulf (a 2) (rows X (place l i 2))))
    (mulf (a 3) (rows X (place l i 3)))

/-- The starting strands' means mixed likewise. -/
def mixMean (X : FVec F S32x1024 .f32) (x : FVec F S4x128 .f32) (i : Fin 4) : FVec F S1x1024 .f32 :=
  addf (addf (addf (mulf (startMean x 0) (row X (place 0 i 0))) (mulf (startMean x 1) (row X (place 0 i 1))))
    (mulf (startMean x 2) (row X (place 0 i 2)))) (mulf (startMean x 3) (row X (place 0 i 3)))

/-- The mean of the squares over the features. -/
def meanSquare (a : FVec F S128x1024 .f32) : FVec F S1x1024 .f32 :=
  divf (shapeCast S1x1024 (multiReduction .add [0] S1024 (mulf a a) 0x00000000#32 reduces_S128x1024_S1024 (.inl rfl) rfl) shapeCasts_S1024_S1x1024)
    (broadcast S1x1024 (Scalar.ofBits .f32 0x43000000#32))

/-- One over the square root of a variance and the small constant. -/
def scale (v : FVec F S1x1024 .f32) : FVec F S128x1024 .f32 :=
  broadcastTo S128x1024 (rsqrt (addf v (broadcast S1x1024 (Scalar.ofBits .f32 0x3727C5AC#32)))) broadcasts_S1x1024_S128x1024

/-- Strand `i` after the first layer. -/
def first (X : FVec F S32x1024 .f32) (x : FVec F S4x128 .f32) (i : Fin 4) : FVec F S128x1024 .f32 :=
  mulf (subf (mix X (start x) 0 i) (broadcastTo S128x1024 (mixMean X x i) broadcasts_S1x1024_S128x1024))
    (scale (subf (meanSquare (mix X (start x) 0 i)) (mulf (mixMean X x i) (mixMean X x i))))

/-- Strand `i` after the second layer. -/
def second (X : FVec F S32x1024 .f32) (x : FVec F S4x128 .f32) (i : Fin 4) : FVec F S128x1024 .f32 :=
  mulf (mix X (first X x) 1 i) (scale (meanSquare (mix X (first X x) 1 i)))

/-- The first dense layer's four partial products and its offset. -/
def hiddenSum (X : FVec F S32x1024 .f32) (x : FVec F S4x128 .f32) (w : Fin 3 → FVec F S128x128 .f32) (b : FVec F S128 .f32) : FVec F S128x1024 .f32 :=
  k0_pay442 (second X x 2) (k0_pay441 (second X x 0) (second X x 1) b (w 0) (w 1)) (w 2)

end Cert.Layers

end
-- ==== Proof.Output.lean ====
/- The kernel's two results as functions of its arguments. -/
module

public import proofs.«01_k».proof.Proof.Stores
public import proofs.«01_k».proof.Proof.Layers
public import proofs.«01_k».proof.Proof.Gen.KernelIdeal.Value

@[expose] public section

set_option maxRecDepth 16384
noncomputable section

namespace Cert.Output

open Cert.KernelIdeal Cert.KernelIdeal.Gen Idealize.ShloMosaic Idealize.ShloMosaic.TcCoe Cert.Rotations Cert.Layers

variable {F : FTy → Type} [FloatOps F]

/-- The 128 columns of the first weight matrix that act on strand `i`. -/
def block (w : FVec F S128x512 .f32) (o : ℕ) (h : ∀ a, (![0, o] : Fin 2 → ℕ) a + S128x128.size a ≤ S128x512.size a) : FVec F S128x128 .f32 :=
  View.ld (Val := Elt F) (e' := .f32) w (Rect.unit ![0, o] S128x128.size h)

/-- One angle. -/
def angle (x2 : FVec F S2x3 .f32) (o : Fin 2 → ℕ) (h : ∀ a, o a + S1x1.size a ≤ S2x3.size a) : FVec F S1x1 .f32 :=
  View.ld (Val := Elt F) (e' := .f32) x2 (Rect.unit o S1x1.size h)

/-- The trigonometric columns of the angles. -/
def trig (x2 : FVec F S2x3 .f32) : Trig F where
  cos := ![k0_pay7 (angle x2 ![0, 0] inb_S2x3_S1x1_0_0) (angle x2 ![1, 0] inb_S2x3_S1x1_1_0),
    k0_pay9 (angle x2 ![0, 1] inb_S2x3_S1x1_0_1) (angle x2 ![1, 1] inb_S2x3_S1x1_1_1),
    k0_pay13 (angle x2 ![0, 2] inb_S2x3_S1x1_0_2) (angle x2 ![1, 2] inb_S2x3_S1x1_1_2)]
  sin := ![k0_pay8 (angle x2 ![0, 0] inb_S2x3_S1x1_0_0) (angle x2 ![1, 0] inb_S2x3_S1x1_1_0),
    k0_pay12 (k0_pay10 (angle x2 ![0, 1] inb_S2x3_S1x1_0_1)) (k0_pay11 (angle x2 ![1, 1] inb_S2x3_S1x1_1_1)),
    k0_pay14 (angle x2 ![0, 2] inb_S2x3_S1x1_0_2) (angle x2 ![1, 2] inb_S2x3_S1x1_1_2)]

/-- The final scratch of the braids `x0` and the angles `x2`. -/
def final (x0 : IVec S1024x20 32) (x2 : FVec F S2x3 .f32) : FVec F S32x1024 .f32 := scratch (trig x2) (k0_pay4 (F := F) x0) schedule

/-- The four blocks of the first weight matrix. -/
def blocks (w : FVec F S128x512 .f32) : Fin 4 → FVec F S128x128 .f32 :=
  ![block w 0 inb_S128x512_S128x128_0_0, block w 128 inb_S128x512_S128x128_0_128, block w 256 inb_S128x512_S128x128_0_256,
    block w 384 inb_S128x512_S128x128_0_384]

/-- The kernel's first result over its final scratch and the four blocks of its first weight matrix. -/
def result0 (X : FVec F S32x1024 .f32) (x1 : FVec F S4x128 .f32) (w : Fin 4 → FVec F S128x128 .f32) (x6 : FVec F S128 .f32)
    (x7 : FVec F S64x128 .f32) (x8 : FVec F S64 .f32) (x9 : FVec F S2x64 .f32) (x10 : FVec F S2 .f32) : FVec F S1024 .f32 :=
  k0_pay2 (second X x1 3) (k0_pay439 x8) (k0_pay440 x10) (hiddenSum X x1 ![w 0, w 1, w 2] x6) (w 3) x7 x9

/-- The kernel's second result over its final scratch and the four blocks of its first weight matrix. -/
def result1 (X : FVec F S32x1024 .f32) (x1 : FVec F S4x128 .f32) (w : Fin 4 → FVec F S128x128 .f32) (x6 : FVec F S128 .f32)
    (x7 : FVec F S64x128 .f32) (x8 : FVec F S64 .f32) (x9 : FVec F S2x64 .f32) (x10 : FVec F S2 .f32) : FVec F S1024 .f32 :=
  k0_pay3 (second X x1 3) (k0_pay439 x8) (k0_pay440 x10) (hiddenSum X x1 ![w 0, w 1, w 2] x6) (w 3) x7 x9

open Cert.KernelIdeal.Gen.kernelRun0_A.sl in
/-- What the run leaves for the first result, the run's own reads named. -/
theorem pieces0 (c : Dev nD) (arg0 : Memref sig .tc .vmem S1024x20 .i32) (harg0 : arg0.IsWhole) (arg1 : Memref sig .tc .vmem S4x128 .f32) (harg1 : arg1.IsWhole) (arg2 : Memref sig .tc .vmem S2x3 .f32) (harg2 : arg2.IsWhole) (arg3 : Memref sig .tc .vmem S2x128 .f32) (harg3 : arg3.IsWhole) (arg4 : Memref sig .tc .vmem S2x128 .f32) (harg4 : arg4.IsWhole) (arg5 : Memref sig .tc .vmem S128x512 .f32) (harg5 : arg5.IsWhole) (arg6 : Memref sig .tc .vmem S128 .f32) (harg6 : arg6.IsWhole) (arg7 : Memref sig .tc .vmem S64x128 .f32) (harg7 : arg7.IsWhole) (arg8 : Memref sig .tc .vmem S64 .f32) (harg8 : arg8.IsWhole) (arg9 : Memref sig .tc .vmem S2x64 .f32) (harg9 : arg9.IsWhole) (arg10 : Memref sig .tc .vmem S2 .f32) (harg10 : arg10.IsWhole) (arg11 : Memref sig .tc .vmem S1024 .f32) (harg11 : arg11.IsWhole) (arg12 : Memref sig .tc .vmem S1024 .f32) (harg12 : arg12.IsWhole) (arg13 : Memref sig .tc .vmem S32x1024 .f32) (harg13 : arg13.IsWhole)
    (x0 : Vec F S1024x20 .i32) (x1 : Vec F S4x128 .f32) (x2 : Vec F S2x3 .f32) (x3 : Vec F S2x128 .f32) (x4 : Vec F S2x128 .f32) (x5 : Vec F S128x512 .f32) (x6 : Vec F S128 .f32) (x7 : Vec F S64x128 .f32) (x8 : Vec F S64 .f32) (x9 : Vec F S2x64 .f32) (x10 : Vec F S2 .f32) :
    (kernelRun0_A c arg0 harg0 arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10).1 = [⟨Rect.unit ![0] S1024.size inb_S1024_S1024_0,
      result0 (v1984 c arg0 harg0 arg2 harg2 arg13 x0 x2) (View.readAt (Elt F) arg1.view (Rect.unit (s := S4x128) ![0, 0] S4x128.size inb_S4x128_S4x128_0_0).toLoadRect (harg1.unread x1))
        ![
          View.readAt (Elt F) arg5.view (Rect.unit (s := S128x512) ![0, 0] S128x128.size inb_S128x512_S128x128_0_0).toLoadRect (harg5.unread x5),
          View.readAt (Elt F) arg5.view (Rect.unit (s := S128x512) ![0, 128] S128x128.size inb_S128x512_S128x128_0_128).toLoadRect (harg5.unread x5),
          View.readAt (Elt F) arg5.view (Rect.unit (s := S128x512) ![0, 256] S128x128.size inb_S128x512_S128x128_0_256).toLoadRect (harg5.unread x5),
          View.readAt (Elt F) arg5.view (Rect.unit (s := S128x512) ![0, 384] S128x128.size inb_S128x512_S128x128_0_384).toLoadRect (harg5.unread x5)]
        (View.readAt (Elt F) arg6.view (Rect.unit (s := S128) ![0] S128.size inb_S128_S128_0).toLoadRect (harg6.unread x6))
        (View.readAt (Elt F) arg7.view (Rect.unit (s := S64x128) ![0, 0] S64x128.size inb_S64x128_S64x128_0_0).toLoadRect (harg7.unread x7))
        (View.readAt (Elt F) arg8.view (Rect.unit (s := S64) ![0] S64.size inb_S64_S64_0).toLoadRect (harg8.unread x8))
        (View.readAt (Elt F) arg9.view (Rect.unit (s := S2x64) ![0, 0] S2x64.size inb_S2x64_S2x64_0_0).toLoadRect (harg9.unread x9))
        (View.readAt (Elt F) arg10.view (Rect.unit (s := S2) ![0] S2.size inb_S2_S2_0).toLoadRect (harg10.unread x10))⟩] := rfl

open Cert.KernelIdeal.Gen.kernelRun0_A.sl in
/-- What the run leaves for the second result, the run's own reads named. -/
theorem pieces1 (c : Dev nD) (arg0 : Memref sig .tc .vmem S1024x20 .i32) (harg0 : arg0.IsWhole) (arg1 : Memref sig .tc .vmem S4x128 .f32) (harg1 : arg1.IsWhole) (arg2 : Memref sig .tc .vmem S2x3 .f32) (harg2 : arg2.IsWhole) (arg3 : Memref sig .tc .vmem S2x128 .f32) (harg3 : arg3.IsWhole) (arg4 : Memref sig .tc .vmem S2x128 .f32) (harg4 : arg4.IsWhole) (arg5 : Memref sig .tc .vmem S128x512 .f32) (harg5 : arg5.IsWhole) (arg6 : Memref sig .tc .vmem S128 .f32) (harg6 : arg6.IsWhole) (arg7 : Memref sig .tc .vmem S64x128 .f32) (harg7 : arg7.IsWhole) (arg8 : Memref sig .tc .vmem S64 .f32) (harg8 : arg8.IsWhole) (arg9 : Memref sig .tc .vmem S2x64 .f32) (harg9 : arg9.IsWhole) (arg10 : Memref sig .tc .vmem S2 .f32) (harg10 : arg10.IsWhole) (arg11 : Memref sig .tc .vmem S1024 .f32) (harg11 : arg11.IsWhole) (arg12 : Memref sig .tc .vmem S1024 .f32) (harg12 : arg12.IsWhole) (arg13 : Memref sig .tc .vmem S32x1024 .f32) (harg13 : arg13.IsWhole)
    (x0 : Vec F S1024x20 .i32) (x1 : Vec F S4x128 .f32) (x2 : Vec F S2x3 .f32) (x3 : Vec F S2x128 .f32) (x4 : Vec F S2x128 .f32) (x5 : Vec F S128x512 .f32) (x6 : Vec F S128 .f32) (x7 : Vec F S64x128 .f32) (x8 : Vec F S64 .f32) (x9 : Vec F S2x64 .f32) (x10 : Vec F S2 .f32) :
    (kernelRun0_A c arg0 harg0 arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10).2.1 = [⟨Rect.unit ![0] S1024.size inb_S1024_S1024_0,
      result1 (v1984 c arg0 harg0 arg2 harg2 arg13 x0 x2) (View.readAt (Elt F) arg1.view (Rect.unit (s := S4x128) ![0, 0] S4x128.size inb_S4x128_S4x128_0_0).toLoadRect (harg1.unread x1))
        ![
          View.readAt (Elt F) arg5.view (Rect.unit (s := S128x512) ![0, 0] S128x128.size inb_S128x512_S128x128_0_0).toLoadRect (harg5.unread x5),
          View.readAt (Elt F) arg5.view (Rect.unit (s := S128x512) ![0, 128] S128x128.size inb_S128x512_S128x128_0_128).toLoadRect (harg5.unread x5),
          View.readAt (Elt F) arg5.view (Rect.unit (s := S128x512) ![0, 256] S128x128.size inb_S128x512_S128x128_0_256).toLoadRect (harg5.unread x5),
          View.readAt (Elt F) arg5.view (Rect.unit (s := S128x512) ![0, 384] S128x128.size inb_S128x512_S128x128_0_384).toLoadRect (harg5.unread x5)]
        (View.readAt (Elt F) arg6.view (Rect.unit (s := S128) ![0] S128.size inb_S128_S128_0).toLoadRect (harg6.unread x6))
        (View.readAt (Elt F) arg7.view (Rect.unit (s := S64x128) ![0, 0] S64x128.size inb_S64x128_S64x128_0_0).toLoadRect (harg7.unread x7))
        (View.readAt (Elt F) arg8.view (Rect.unit (s := S64) ![0] S64.size inb_S64_S64_0).toLoadRect (harg8.unread x8))
        (View.readAt (Elt F) arg9.view (Rect.unit (s := S2x64) ![0, 0] S2x64.size inb_S2x64_S2x64_0_0).toLoadRect (harg9.unread x9))
        (View.readAt (Elt F) arg10.view (Rect.unit (s := S2) ![0] S2.size inb_S2_S2_0).toLoadRect (harg10.unread x10))⟩] := rfl

open Cert.KernelIdeal.Gen.kernelRun0_A.sl in
/-- The run's last read of the whole scratch is the final scratch of the body's inputs. -/
theorem whole_scratch (c : Dev nD) (arg0 : Memref sig .tc .vmem S1024x20 .i32) (harg0 : arg0.IsWhole)
    (arg2 : Memref sig .tc .vmem S2x3 .f32) (harg2 : arg2.IsWhole) (arg13 : Memref sig .tc .vmem S32x1024 .f32)
    (x0 : Vec F S1024x20 .i32) (x2 : Vec F S2x3 .f32) :
    v1984 c arg0 harg0 arg2 harg2 arg13 x0 x2 = final x0 x2 := by
  have h : v1984 c arg0 harg0 arg2 harg2 arg13 x0 x2
      = View.ld (Val := Elt F) (e' := .f32) (View.canon (HS0_121 c arg0 harg0 arg2 harg2 arg13 x0 x2)) (Rect.unit ![0, 0] S32x1024.size inb_S32x1024_S32x1024_0_0) :=
    View.readCov_eq_canon' arg13.view _ _
  rw [h, View.ld_unit_lit (S := S32x1024) (off := ![0, 0]) _ _ (by decide), ← stores]
  unfold final
  have hr : r c arg0 harg0 x0 = k0_pay4 (F := F) x0 := by
    show k0_pay4 (F := F) (View.ld (arg0.view.read (Elt F) (harg0.unread x0)) (Rect.unit (s := S1024x20) ![0, 0] S1024x20.size inb_S1024x20_S1024x20_0_0)) = _
    rw [harg0.read_unread, View.ld_unit_lit (S := S1024x20) (off := ![0, 0]) _ _ (by decide)]
  have ha (o : Fin 2 → ℕ) (hi : ∀ a, o a + S1x1.size a ≤ S2x3.size a) :
      View.readAt (Elt F) arg2.view (Rect.unit (s := S2x3) o S1x1.size hi).toLoadRect (harg2.unread x2) = angle x2 o hi := by
    show View.ld (arg2.view.read (Elt F) (harg2.unread x2)) _ = _
    rw [harg2.read_unread]; rfl
  have ht : (⟨![r_1 c arg2 harg2 x2, r_3 c arg2 harg2 x2, r_7 c arg2 harg2 x2],
     ![r_2 c arg2 harg2 x2, r_6 c arg2 harg2 x2, r_8 c arg2 harg2 x2]⟩ : Trig F) = trig x2 := by
    unfold r_1 r_2 r_3 r_6 r_7 r_8 r_4 r_5 trig
    simp only [ha]
  rw [hr, ht]

/-- The first result's buffer after the body: the first result over the body's inputs. -/
theorem out0 (c : Dev nD) (arg0 : Memref sig .tc .vmem S1024x20 .i32) (harg0 : arg0.IsWhole) (arg1 : Memref sig .tc .vmem S4x128 .f32) (harg1 : arg1.IsWhole) (arg2 : Memref sig .tc .vmem S2x3 .f32) (harg2 : arg2.IsWhole) (arg3 : Memref sig .tc .vmem S2x128 .f32) (harg3 : arg3.IsWhole) (arg4 : Memref sig .tc .vmem S2x128 .f32) (harg4 : arg4.IsWhole) (arg5 : Memref sig .tc .vmem S128x512 .f32) (harg5 : arg5.IsWhole) (arg6 : Memref sig .tc .vmem S128 .f32) (harg6 : arg6.IsWhole) (arg7 : Memref sig .tc .vmem S64x128 .f32) (harg7 : arg7.IsWhole) (arg8 : Memref sig .tc .vmem S64 .f32) (harg8 : arg8.IsWhole) (arg9 : Memref sig .tc .vmem S2x64 .f32) (harg9 : arg9.IsWhole) (arg10 : Memref sig .tc .vmem S2 .f32) (harg10 : arg10.IsWhole) (arg11 : Memref sig .tc .vmem S1024 .f32) (harg11 : arg11.IsWhole) (arg12 : Memref sig .tc .vmem S1024 .f32) (harg12 : arg12.IsWhole) (arg13 : Memref sig .tc .vmem S32x1024 .f32) (harg13 : arg13.IsWhole)
    (x0 : Vec F S1024x20 .i32) (x1 : Vec F S4x128 .f32) (x2 : Vec F S2x3 .f32) (x3 : Vec F S2x128 .f32) (x4 : Vec F S2x128 .f32) (x5 : Vec F S128x512 .f32) (x6 : Vec F S128 .f32) (x7 : Vec F S64x128 .f32) (x8 : Vec F S64 .f32) (x9 : Vec F S2x64 .f32) (x10 : Vec F S2 .f32) :
    out0_A_11 c arg0 harg0 arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 =
      result0 (final x0 x2) x1 (blocks x5) x6 x7 x8 x9 x10 := by
  unfold out0_A_11
  rw [pieces0, View.read_writes_junk_eq_canon, View.canon_cons_unit_lit (S := S1024) _ _ _ (by decide), whole_scratch]
  simp only [View.readAt_eq_ld, Memref.IsWhole.read_unread, View.ld_unit_lit (S := S4x128) (off := ![0, 0]) _ _ (by decide),
    View.ld_unit_lit (S := S128) (off := ![0]) _ _ (by decide), View.ld_unit_lit (S := S64x128) (off := ![0, 0]) _ _ (by decide),
    View.ld_unit_lit (S := S64) (off := ![0]) _ _ (by decide), View.ld_unit_lit (S := S2x64) (off := ![0, 0]) _ _ (by decide),
    View.ld_unit_lit (S := S2) (off := ![0]) _ _ (by decide)]
  rfl

/-- The second result's buffer after the body: the second result over the body's inputs. -/
theorem out1 (c : Dev nD) (arg0 : Memref sig .tc .vmem S1024x20 .i32) (harg0 : arg0.IsWhole) (arg1 : Memref sig .tc .vmem S4x128 .f32) (harg1 : arg1.IsWhole) (arg2 : Memref sig .tc .vmem S2x3 .f32) (harg2 : arg2.IsWhole) (arg3 : Memref sig .tc .vmem S2x128 .f32) (harg3 : arg3.IsWhole) (arg4 : Memref sig .tc .vmem S2x128 .f32) (harg4 : arg4.IsWhole) (arg5 : Memref sig .tc .vmem S128x512 .f32) (harg5 : arg5.IsWhole) (arg6 : Memref sig .tc .vmem S128 .f32) (harg6 : arg6.IsWhole) (arg7 : Memref sig .tc .vmem S64x128 .f32) (harg7 : arg7.IsWhole) (arg8 : Memref sig .tc .vmem S64 .f32) (harg8 : arg8.IsWhole) (arg9 : Memref sig .tc .vmem S2x64 .f32) (harg9 : arg9.IsWhole) (arg10 : Memref sig .tc .vmem S2 .f32) (harg10 : arg10.IsWhole) (arg11 : Memref sig .tc .vmem S1024 .f32) (harg11 : arg11.IsWhole) (arg12 : Memref sig .tc .vmem S1024 .f32) (harg12 : arg12.IsWhole) (arg13 : Memref sig .tc .vmem S32x1024 .f32) (harg13 : arg13.IsWhole)
    (x0 : Vec F S1024x20 .i32) (x1 : Vec F S4x128 .f32) (x2 : Vec F S2x3 .f32) (x3 : Vec F S2x128 .f32) (x4 : Vec F S2x128 .f32) (x5 : Vec F S128x512 .f32) (x6 : Vec F S128 .f32) (x7 : Vec F S64x128 .f32) (x8 : Vec F S64 .f32) (x9 : Vec F S2x64 .f32) (x10 : Vec F S2 .f32) :
    out0_A_12 c arg0 harg0 arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 =
      result1 (final x0 x2) x1 (blocks x5) x6 x7 x8 x9 x10 := by
  unfold out0_A_12
  rw [pieces1, View.read_writes_junk_eq_canon, View.canon_cons_unit_lit (S := S1024) _ _ _ (by decide), whole_scratch]
  simp only [View.readAt_eq_ld, Memref.IsWhole.read_unread, View.ld_unit_lit (S := S4x128) (off := ![0, 0]) _ _ (by decide),
    View.ld_unit_lit (S := S128) (off := ![0]) _ _ (by decide), View.ld_unit_lit (S := S64x128) (off := ![0, 0]) _ _ (by decide),
    View.ld_unit_lit (S := S64) (off := ![0]) _ _ (by decide), View.ld_unit_lit (S := S2x64) (off := ![0, 0]) _ _ (by decide),
    View.ld_unit_lit (S := S2) (off := ![0]) _ _ (by decide)]
  rfl

end Cert.Output

end
-- ==== Proof.Arrays.lean ====
/- The kernel's result arrays after the launch, over its argument arrays. -/
module

public import proofs.«01_k».proof.Proof.Output

@[expose] public section

set_option maxRecDepth 16384
noncomputable section

namespace Cert.Arrays

open Cert.KernelIdeal Cert.KernelIdeal.Gen Idealize.ShloMosaic Idealize.ShloMosaic.TcCoe Cert.Output

variable {F : FTy → Type} [FloatOps F]
variable (m : (ℓ : Loc nD τ sig) → Buf (Elt F) ℓ)

/-- The one point's blocks start at the arrays' origins. -/
theorem origins : win0_0.index t0_0 = ![0, 0] ∧ win0_1.index t0_0 = ![0, 0] ∧ win0_2.index t0_0 = ![0, 0] ∧ win0_5.index t0_0 = ![0, 0] ∧ win0_6.index t0_0 = ![0] ∧ win0_7.index t0_0 = ![0, 0] ∧ win0_8.index t0_0 = ![0] ∧ win0_9.index t0_0 = ![0, 0] ∧ win0_10.index t0_0 = ![0] := by
  decide +kernel

/-- The one point's input blocks are the argument arrays. -/
theorem inputs (c : Dev nD) : iblk m c 0 t0_0 = m ((c : Thread nD τ).loc main_arg0)
    ∧ iblk m c 1 t0_0 = m ((c : Thread nD τ).loc main_arg1)
    ∧ iblk m c 2 t0_0 = m ((c : Thread nD τ).loc main_arg2)
    ∧ iblk m c 5 t0_0 = m ((c : Thread nD τ).loc main_arg5)
    ∧ iblk m c 6 t0_0 = m ((c : Thread nD τ).loc main_arg6)
    ∧ iblk m c 7 t0_0 = m ((c : Thread nD τ).loc main_arg7)
    ∧ iblk m c 8 t0_0 = m ((c : Thread nD τ).loc main_arg8)
    ∧ iblk m c 9 t0_0 = m ((c : Thread nD τ).loc main_arg9)
    ∧ iblk m c 10 t0_0 = m ((c : Thread nD τ).loc main_arg10) := by
  refine ⟨?_, ?_, ?_, ?_, ?_, ?_, ?_, ?_, ?_⟩ <;> (funext y; blk_point [iblk, V, origins])

/-- The first result's array after the launch. -/
theorem array0 (c : Dev nD) : (dats m 0 c).arrAt 11 (cfgs 0).N
    = result0 (final (m ((c : Thread nD τ).loc main_arg0)) (m ((c : Thread nD τ).loc main_arg2))) (m ((c : Thread nD τ).loc main_arg1))
        (blocks (m ((c : Thread nD τ).loc main_arg5))) (m ((c : Thread nD τ).loc main_arg6)) (m ((c : Thread nD τ).loc main_arg7))
        (m ((c : Thread nD τ).loc main_arg8)) (m ((c : Thread nD τ).loc main_arg9)) (m ((c : Thread nD τ).loc main_arg10)) := by
  obtain ⟨h0, h1, h2, h5, h6, h7, h8, h9, h10⟩ := inputs m c
  refine (dats m 0 c).arrAt_eq_of_after_last 11 t0_0 (by decide +kernel) _ fun j => ?_
  blk_simp
  rw [after0_11]
  unfold outsAt0
  rw [out0, h0, h1, h2, h5, h6, h7, h8, h9, h10]

/-- The second result's array after the launch. -/
theorem array1 (c : Dev nD) : (dats m 0 c).arrAt 12 (cfgs 0).N
    = result1 (final (m ((c : Thread nD τ).loc main_arg0)) (m ((c : Thread nD τ).loc main_arg2))) (m ((c : Thread nD τ).loc main_arg1))
        (blocks (m ((c : Thread nD τ).loc main_arg5))) (m ((c : Thread nD τ).loc main_arg6)) (m ((c : Thread nD τ).loc main_arg7))
        (m ((c : Thread nD τ).loc main_arg8)) (m ((c : Thread nD τ).loc main_arg9)) (m ((c : Thread nD τ).loc main_arg10)) := by
  obtain ⟨h0, h1, h2, h5, h6, h7, h8, h9, h10⟩ := inputs m c
  refine (dats m 0 c).arrAt_eq_of_after_last 12 t0_0 (by decide +kernel) _ fun j => ?_
  blk_simp
  rw [after0_12]
  unfold outsAt0
  rw [out1, h0, h1, h2, h5, h6, h7, h8, h9, h10]

end Cert.Arrays

end
-- ==== Proof.Strands.lean ====
/- The mathematics over the reals: rotations of four strands are linear, and the two ways of normalising agree. -/
module

public import Idealize.ShloMosaic.PureOps.Ideal
public import Mathlib.Tactic.Ring

@[expose] public section

noncomputable section

namespace Cert.Strands

/-- Strands `p` and `p + 1` turned by the angle of cosine `c` and sine `s`. -/
def turn (p : Fin 3) (c s : ℝ) (x : Fin 4 → ℝ) : Fin 4 → ℝ := fun i =>
  if i = p.castSucc then c * x p.castSucc - s * x p.succ
  else if i = p.succ then s * x p.castSucc + c * x p.succ
  else x i

/-- The turns of a list, last first, each named by its step and its position. -/
def turns (c s : Fin 20 × Fin 3 → ℝ) : List (Fin 20 × Fin 3) → (Fin 4 → ℝ) → Fin 4 → ℝ
  | [], x => x
  | a :: l, x => turn a.2 (c a) (s a) (turns c s l x)

/-- The `j`th unit vector. -/
def unit (j : Fin 4) : Fin 4 → ℝ := fun i => if i = j then 1 else 0

/-- A rotation of a weighted sum is the weighted sum of the rotations. -/
theorem turn_sum (p : Fin 3) (c s : ℝ) (y : Fin 4 → ℝ) (x : Fin 4 → Fin 4 → ℝ) (i : Fin 4) :
    turn p c s (fun i => ∑ j, y j * x j i) i = ∑ j, y j * turn p c s (x j) i := by
  unfold turn
  split_ifs
  · simp only [Fin.sum_univ_four]; ring
  · simp only [Fin.sum_univ_four]; ring
  · rfl

/-- Turning a vector is mixing the turned unit vectors by its entries. -/
theorem turns_eq (c s : Fin 20 × Fin 3 → ℝ) (l : List (Fin 20 × Fin 3)) (x : Fin 4 → ℝ) (i : Fin 4) :
    turns c s l x i = ∑ j, x j * turns c s l (unit j) i := by
  induction l generalizing i with
  | nil => simp [turns, unit]
  | cons a l ih =>
    show turn a.2 (c a) (s a) (turns c s l x) i = _
    rw [funext ih, turn_sum]
    rfl

/-- The mean over the 128 features. -/
def mean (f : Fin 128 → ℝ) : ℝ := (∑ h, f h) / 128

/-- The mean of the squared distances from the mean. -/
def variance (f : Fin 128 → ℝ) : ℝ := (∑ h, (f h - mean f) * (f h - mean f)) / 128

/-- The mean of a weighted sum is the weighted sum of the means. -/
theorem mean_mix (a : Fin 4 → Fin 128 → ℝ) (r : Fin 4 → ℝ) : mean (fun h => ∑ j, a j h * r j) = ∑ j, mean (a j) * r j := by
  unfold mean
  rw [Finset.sum_comm, Finset.sum_div]
  refine Finset.sum_congr rfl fun j _ => ?_
  rw [← Finset.sum_mul]
  ring

/-- The variance is the mean square less the squared mean. -/
theorem variance_eq (f : Fin 128 → ℝ) : variance f = (∑ h, f h * f h) / 128 - mean f * mean f := by
  have e : ∀ h, (f h - mean f) * (f h - mean f) = f h * f h - 2 * mean f * f h + mean f * mean f := fun h => by ring
  unfold variance
  simp only [e, Finset.sum_add_distrib, Finset.sum_sub_distrib, ← Finset.mul_sum, Finset.sum_const, Finset.card_univ, Fintype.card_fin,
    nsmul_eq_mul]
  unfold mean
  push_cast
  ring

/-- A variance is not negative. -/
theorem variance_nonneg (f : Fin 128 → ℝ) : 0 ≤ variance f :=
  div_nonneg (Finset.sum_nonneg fun _ _ => mul_self_nonneg _) (by norm_num)

/-- A feature vector normalised with the small constant `e`. -/
def norm (e : ℝ) (f : Fin 128 → ℝ) : Fin 128 → ℝ := fun h => (f h - mean f) / Real.sqrt (variance f + e)

/-- A normalised vector has mean zero. -/
theorem mean_norm (e : ℝ) (f : Fin 128 → ℝ) : mean (norm e f) = 0 := by
  have h0 : ∑ h, (f h - mean f) = 0 := by
    rw [Finset.sum_sub_distrib, Finset.sum_const, Finset.card_univ, Fintype.card_fin, nsmul_eq_mul]
    unfold mean
    push_cast
    ring
  show (∑ h, (f h - mean f) / Real.sqrt (variance f + e)) / 128 = 0
  rw [← Finset.sum_div, h0, zero_div, zero_div]

/-- The four strands turned, each then normalised. -/
def layer (e : ℝ) (c s : Fin 20 × Fin 3 → ℝ) (l : List (Fin 20 × Fin 3)) (x : Fin 4 → Fin 128 → ℝ) (i : Fin 4) : Fin 128 → ℝ :=
  norm e fun h => turns c s l (fun i => x i h) i

/-- Turned strands are the strands weighted by the turned unit vectors. -/
theorem turned_eq (c s : Fin 20 × Fin 3 → ℝ) (l : List (Fin 20 × Fin 3)) (x : Fin 4 → Fin 128 → ℝ) (i : Fin 4) :
    (fun h => turns c s l (fun i => x i h) i) = fun h => ∑ j, x j h * turns c s l (unit j) i :=
  funext fun _ => turns_eq c s l _ i

/-- The layer in the mixing form: means mixed, the variance as a mean square less a squared mean, an inverse square root. -/
theorem layer_mixed (e : ℝ) (c s : Fin 20 × Fin 3 → ℝ) (l : List (Fin 20 × Fin 3)) (x : Fin 4 → Fin 128 → ℝ) (i : Fin 4) (h : Fin 128) :
    layer e c s l x i h = (∑ j, x j h * turns c s l (unit j) i - ∑ j, mean (x j) * turns c s l (unit j) i)
      * (Real.sqrt ((∑ h, (∑ j, x j h * turns c s l (unit j) i) * (∑ j, x j h * turns c s l (unit j) i)) / 128
        - (∑ j, mean (x j) * turns c s l (unit j) i) * (∑ j, mean (x j) * turns c s l (unit j) i) + e))⁻¹ := by
  unfold layer
  rw [turned_eq]
  unfold norm
  rw [variance_eq, mean_mix, div_eq_mul_inv]

/-- The layer of strands of mean zero needs no mean. -/
theorem layer_centred (e : ℝ) (c s : Fin 20 × Fin 3 → ℝ) (l : List (Fin 20 × Fin 3)) (x : Fin 4 → Fin 128 → ℝ) (hx : ∀ j, mean (x j) = 0)
    (i : Fin 4) (h : Fin 128) :
    layer e c s l x i h = (∑ j, x j h * turns c s l (unit j) i)
      * (Real.sqrt ((∑ h, (∑ j, x j h * turns c s l (unit j) i) * (∑ j, x j h * turns c s l (unit j) i)) / 128 + e))⁻¹ := by
  rw [layer_mixed]
  simp only [hx, zero_mul, Finset.sum_const_zero, sub_zero]

/-- What stands under the first form's root is positive. -/
theorem mixed_pos {e : ℝ} (he : 0 < e) (c s : Fin 20 × Fin 3 → ℝ) (l : List (Fin 20 × Fin 3)) (x : Fin 4 → Fin 128 → ℝ) (i : Fin 4) :
    0 < (∑ h, (∑ j, x j h * turns c s l (unit j) i) * (∑ j, x j h * turns c s l (unit j) i)) / 128
        - (∑ j, mean (x j) * turns c s l (unit j) i) * (∑ j, mean (x j) * turns c s l (unit j) i) + e := by
  rw [← mean_mix, ← variance_eq]
  exact add_pos_of_nonneg_of_pos (variance_nonneg _) he

/-- So is what stands under the second form's. -/
theorem centred_pos {e : ℝ} (he : 0 < e) (f : Fin 128 → ℝ) : 0 < (∑ h, f h * f h) / 128 + e :=
  add_pos_of_nonneg_of_pos (div_nonneg (Finset.sum_nonneg fun _ _ => mul_self_nonneg _) (by norm_num)) he

end Cert.Strands

end
-- ==== Proof.Entries.lean ====
/- The kernel's scratch at an index, over the reals. -/
module

public import proofs.«01_k».proof.Proof.Output
public import proofs.«01_k».proof.Proof.Strands
public import Idealize.ShloMosaic.Lib.Pointwise

@[expose] public section

noncomputable section

namespace Cert.Entries

open Cert.KernelIdeal Cert.KernelIdeal.Gen Idealize.ShloMosaic Idealize.ShloMosaic.TcCoe Cert.Rotations Cert.Layers Cert.Output

/-- The eight rows of a column: four of the first layer, four of the second. -/
def lane (l : Fin 2) (j : Fin 4) : Fin 8 := ⟨4 * l.val + j.val, by omega⟩

/-- The angle read as a single entry and stretched is the entry of the angle array. -/
theorem angle_at (x2 : FVec Ideal S2x3 .f32) (a : Fin 2) (p : Fin 3) (h : ∀ k, (![a.val, p.val] : Fin 2 → ℕ) k + S1x1.size k ≤ S2x3.size k)
    (y : S1x1.Idx) :
    angle x2 ![a.val, p.val] h y = x2 (ix2 a p) := by
  idx_vars y
  unfold angle
  pointwise [View.ld]

/-- The first four lanes belong to the first layer, the others to the second. -/
theorem lane_split {α : Type} (l : Fin 2) (j : Fin 4) (u v : α) : (if 4 * l.val + j.val < 4 then u else v) = if l = 0 then u else v := by
  fin_cases l <;> simp

/-- A cosine column: its upper four rows hold the first angle's cosine, its lower four the second's. -/
theorem cos_column (u v : FVec Ideal S1x1 .f32) (l : Fin 2) (j : Fin 4) :
    k0_pay7 (F := Ideal) u v (ix2 (lane l j) 0) = Ideal.cos (if l = 0 then u (ix2 0 0) else v (ix2 0 0)) := by
  pointwise [k0_pay7, lane]
  rw [apply_ite Ideal.cos]
  exact lane_split ..

/-- A sine column, likewise. -/
theorem sin_column (u v : FVec Ideal S1x1 .f32) (l : Fin 2) (j : Fin 4) :
    k0_pay8 (F := Ideal) u v (ix2 (lane l j) 0) = Ideal.sin (if l = 0 then u (ix2 0 0) else v (ix2 0 0)) := by
  pointwise [k0_pay8, lane]
  rw [apply_ite Ideal.sin]
  exact lane_split ..

/-- Row `n` of the starting scratch is one exactly where its place in its group of four is its group. -/
theorem start_mask (n : Fin 32) (b : Fin 1024) : k0_pay5 (ix2 n b) = if n.val % 4 = n.val / 8 then 1#1 else 0#1 := by
  pointwise [k0_pay5]
  revert n
  decide +kernel

/-- Row `y` of strand `o` is row `8 o + y` of the scratch. -/
theorem strand_row (o : Fin 4) (y : S8x1024.Idx) : ((strand o).emb y 0).val = 8 * o.val + (y 0).val := by
  rw [Rect.emb_apply]
  show 8 * o.val + 1 * (y 0).val = _
  omega

/-- Strand `o` at a layer's lane is that layer's place in the scratch. -/
theorem strand_idx (o : Fin 4) (l : Fin 2) (j : Fin 4) (b : Fin 1024) : (strand o).emb (ix2 (lane l j) b) = (ix2 (place l o j) b : S32x1024.Idx) := by
  refine funext fun a => Fin.ext ?_
  rw [Rect.emb_apply]
  match a with
  | ⟨0, _⟩ => show 8 * o.val + 1 * (4 * l.val + j.val) = 8 * o.val + 4 * l.val + j.val; omega
  | ⟨1, _⟩ => show 0 + 1 * b.val = b.val; omega

/-- A strand's rows replaced: what another strand's rows hold is kept. -/
theorem strand_overlay (o : Fin 4) (X : FVec Ideal S32x1024 .f32) (P : FVec Ideal S8x1024 .f32) (l : Fin 2) (i j : Fin 4) (b : Fin 1024) :
    (strand o).overlay X P (ix2 (place l i j) b) = if i = o then P (ix2 (lane l j) b) else X (ix2 (place l i j) b) := by
  split_ifs with h
  · subst h
    rw [← strand_idx]
    exact Rect.overlay_emb ..
  · refine Rect.overlay_of_not_mem _ _ _ fun hm => h ?_
    rw [← Rect.map_emb_univ] at hm
    obtain ⟨y, -, hy⟩ := Finset.mem_map.mp hm
    have h0 : ((strand o).emb y 0).val = 8 * i.val + 4 * l.val + j.val := congrArg (fun z : S32x1024.Idx => (z 0).val) hy
    rw [strand_row] at h0
    have h1 : (y 0).val < 8 := (y 0).isLt
    omega

/-- The words minus one, 128 and the small constant. -/
theorem minus_one : Ideal.ofBits .f32 0xBF800000#32 = ((-1 : ℝ) : EReal) := by
  simp [Ideal.ofBits, Ideal.ieee, -EReal.coe_mul]; norm_num

/-- The word of 128. -/
theorem count : Ideal.ofBits .f32 0x43000000#32 = ((128 : ℝ) : EReal) := by
  simp [Ideal.ofBits, Ideal.ieee, -EReal.coe_mul]; norm_num

/-- The word of infinity. -/
theorem infinity : Ideal.ofBits .f32 0x7F800000#32 = ⊤ := by
  simp [Ideal.ofBits, Ideal.ieee, -EReal.coe_mul]

/-- The word the layer norm adds to a variance is a positive real. -/
theorem small : ∃ e : ℝ, 0 < e ∧ Ideal.ofBits .f32 0x3727C5AC#32 = (e : EReal) := by
  refine ⟨_, ?_, by simp [Ideal.ofBits, Ideal.ieee, -EReal.coe_mul]; rfl⟩
  norm_num

/-- The cosine factor of a generator `g` at position `p`. -/
def cosine (g : BitVec 32) (p : Fin 3) (θ : ℝ) : ℝ := if IntOp.absi g = word p then Real.cos θ else 1

/-- The sine factor. -/
def sine (g : BitVec 32) (p : Fin 3) (θ : ℝ) : ℝ := if IntOp.absi g = word p then (if (0#32).slt g then 1 else -1) * Real.sin θ else 0

/-- A selection on an equality is a conditional. -/
theorem select_eq {α : Type} {n : ℕ} (a b : BitVec n) (x y : α) : Scalar.select (IntOp.cmpi .eq a b) x y = if a = b then x else y := by
  unfold Scalar.select IntOp.cmpi
  by_cases h : a = b
  · simp [h]
  · have e : (a == b) = false := by simpa using h
    simp [h, e]

/-- A selection on a signed comparison is a conditional. -/
theorem select_sgt {α : Type} {n : ℕ} (a b : BitVec n) (x y : α) : Scalar.select (IntOp.cmpi .sgt a b) x y = if b.slt a then x else y := by
  unfold Scalar.select IntOp.cmpi
  cases h : b.slt a <;> simp [h]

/-- The kernel's cosine factor over a real cosine. -/
theorem cos_factor (g : IVec S1x1024 32) (c8 : FVec Ideal S8x1 .f32) (p : Fin 3) (r : Fin 8) (b : Fin 1024) (θ : ℝ)
    (hc : c8 (ix2 r 0) = (Real.cos θ : EReal)) :
    cosFactor c8 g (word p) (ix2 r b) = (cosine (g (ix2 0 b)) p θ : EReal) := by
  pointwise [cosFactor, mask]
  rw [hc, select_eq]
  unfold cosine
  split_ifs <;> simp

/-- The kernel's sine factor over a real sine. -/
theorem sin_factor (g : IVec S1x1024 32) (s8 : FVec Ideal S8x1 .f32) (p : Fin 3) (r : Fin 8) (b : Fin 1024) (θ : ℝ)
    (hs : s8 (ix2 r 0) = (Real.sin θ : EReal)) :
    sinFactor s8 g (word p) (ix2 r b) = (sine (g (ix2 0 b)) p θ : EReal) := by
  pointwise [sinFactor, mask]
  rw [hs, minus_one, select_eq, select_sgt]
  unfold sine
  split_ifs <;> simp

/-- The starting scratch is the unit matrix of each layer. -/
theorem place_inj (l : Fin 2) (i j : Fin 4) : ((place l i j).val % 4 = (place l i j).val / 8) ↔ i = j := by
  revert l i j; decide

/-- The six columns hold the cosines and sines of the angles `θ`. -/
structure Holds (T : Trig Ideal) (θ : Fin 2 → Fin 3 → ℝ) : Prop where
  cos : ∀ p l j, T.cos p (ix2 (lane l j) 0) = (Real.cos (θ l p) : EReal)
  sin : ∀ p l j, T.sin p (ix2 (lane l j) 0) = (Real.sin (θ l p) : EReal)

/-- The upper strand of a rotation at an index. -/
theorem upper_at (c s u v : FVec Ideal S8x1024 .f32) (r : Fin 8) (b : Fin 1024) :
    upper c s u v (ix2 r b) = c (ix2 r b) * u (ix2 r b) - s (ix2 r b) * v (ix2 r b) := by
  pointwise [upper]

/-- The lower strand of a rotation at an index. -/
theorem lower_at (c s u v : FVec Ideal S8x1024 .f32) (r : Fin 8) (b : Fin 1024) :
    lower c s u v (ix2 r b) = s (ix2 r b) * u (ix2 r b) + c (ix2 r b) * v (ix2 r b) := by
  pointwise [lower]

/-- A position's lower strand is not its upper one. -/
theorem succ_ne (p : Fin 3) : ¬ p.succ = p.castSucc := by
  revert p; decide

/-- A rotation at an entry of the scratch. -/
theorem rotate_at (T : Trig Ideal) (θ : Fin 2 → Fin 3 → ℝ) (hT : Holds T θ) (v : IVec S20x1024 32) (X : FVec Ideal S32x1024 .f32)
    (x : Fin 4 → ℝ) (l : Fin 2) (j : Fin 4) (b : Fin 1024) (hX : ∀ i, X (ix2 (place l i j) b) = (x i : EReal)) (t : Fin 20) (p : Fin 3) (i : Fin 4) :
    rotate T v t p X (ix2 (place l i j) b)
      = ((Strands.turn p (cosine (v (ix2 t b)) p (θ l p)) (sine (v (ix2 t b)) p (θ l p)) x i : ℝ) : EReal) := by
  have hg : genRow v t (ix2 0 b) = v (ix2 t b) := by pointwise [genRow]
  have hc := cos_factor (genRow v t) (T.cos p) p (lane l j) b _ (hT.cos p l j)
  have hs := sin_factor (genRow v t) (T.sin p) p (lane l j) b _ (hT.sin p l j)
  rw [hg] at hc hs
  have hu : X ((strand p.castSucc).idx (ix2 (lane l j) b)) = _ := (congrArg X (strand_idx ..)).trans (hX p.castSucc)
  have hv : X ((strand p.succ).idx (ix2 (lane l j) b)) = _ := (congrArg X (strand_idx ..)).trans (hX p.succ)
  unfold rotate
  refine (strand_overlay ..).trans ?_
  rw [strand_overlay, upper_at, lower_at, hc, hs, hX]
  beta_reduce
  rw [hu, hv]
  unfold Strands.turn
  by_cases h1 : i = p.succ
  · have h2 := succ_ne p
    subst h1
    simp only [if_pos, if_neg h2]
    push_cast
    rfl
  · by_cases h2 : i = p.castSucc
    · subst h2
      simp only [if_pos, if_neg h1]
      push_cast
      rfl
    · simp only [if_neg h1, if_neg h2]

/-- Every entry of the scratch: the turned unit vector's entry. -/
theorem scratch_at (T : Trig Ideal) (θ : Fin 2 → Fin 3 → ℝ) (hT : Holds T θ) (v : IVec S20x1024 32) (l : Fin 2) (j : Fin 4) (b : Fin 1024)
    (s : List (Fin 20 × Fin 3)) (i : Fin 4) :
    scratch T v s (ix2 (place l i j) b)
      = ((Strands.turns (fun a => cosine (v (ix2 a.1 b)) a.2 (θ l a.2)) (fun a => sine (v (ix2 a.1 b)) a.2 (θ l a.2)) s (Strands.unit j) i : ℝ) : EReal) := by
  induction s generalizing i with
  | nil =>
    unfold scratch
    pointwise [k0_pay6]
    rw [start_mask]
    simp only [place_inj]
    unfold Strands.turns Strands.unit Scalar.select
    split_ifs <;> simp_all
  | cons a s ih => exact rotate_at T θ hT v _ _ l j b ih a.1 a.2 i

/-- The kernel's columns hold the cosines and sines of its angles. -/
theorem trig_holds (x2 : FVec Ideal S2x3 .f32) (θ : Fin 2 → Fin 3 → ℝ) (hθ : ∀ l p, x2 (ix2 l p) = (θ l p : EReal)) : Holds (trig x2) θ := by
  have ha (l : Fin 2) (p : Fin 3) (h) : angle x2 ![l.val, p.val] h (ix2 0 0) = (θ l p : EReal) := (angle_at ..).trans (hθ l p)
  have pick (l : Fin 2) (p : Fin 3) (h0 h1) :
      (if l = 0 then angle x2 ![(0 : Fin 2).val, p.val] h0 (ix2 0 0) else angle x2 ![(1 : Fin 2).val, p.val] h1 (ix2 0 0)) = (θ l p : EReal) := by
    fin_cases l
    · exact ha 0 p _
    · exact ha 1 p _
  constructor
  · intro p l j
    match p with
    | 0 => exact (cos_column _ _ l j).trans ((congrArg Ideal.cos (pick l 0 _ _)).trans (Ideal.cos_coe _))
    | 1 => exact (cos_column _ _ l j).trans ((congrArg Ideal.cos (pick l 1 _ _)).trans (Ideal.cos_coe _))
    | 2 => exact (cos_column _ _ l j).trans ((congrArg Ideal.cos (pick l 2 _ _)).trans (Ideal.cos_coe _))
  · intro p l j
    match p with
    | 0 => exact (sin_column _ _ l j).trans ((congrArg Ideal.sin (pick l 0 _ _)).trans (Ideal.sin_coe _))
    | 1 => exact (sin_column _ _ l j).trans ((congrArg Ideal.sin (pick l 1 _ _)).trans (Ideal.sin_coe _))
    | 2 => exact (sin_column _ _ l j).trans ((congrArg Ideal.sin (pick l 2 _ _)).trans (Ideal.sin_coe _))

/-- The cosines and the sines of layer `l` at batch entry `b`. -/
def cosines (x0 : IVec S1024x20 32) (θ : Fin 2 → Fin 3 → ℝ) (b : Fin 1024) (l : Fin 2) (a : Fin 20 × Fin 3) : ℝ :=
  cosine (x0 (ix2 b a.1)) a.2 (θ l a.2)
/-- The sines of row `b`'s braid in layer `l`. -/
def sines (x0 : IVec S1024x20 32) (θ : Fin 2 → Fin 3 → ℝ) (b : Fin 1024) (l : Fin 2) (a : Fin 20 × Fin 3) : ℝ :=
  sine (x0 (ix2 b a.1)) a.2 (θ l a.2)

/-- Every entry of the final scratch. -/
theorem final_at (x0 : IVec S1024x20 32) (x2 : FVec Ideal S2x3 .f32) (θ : Fin 2 → Fin 3 → ℝ) (hθ : ∀ l p, x2 (ix2 l p) = (θ l p : EReal))
    (l : Fin 2) (i j : Fin 4) (b : Fin 1024) :
    final x0 x2 (ix2 (place l i j) b) = ((Strands.turns (cosines x0 θ b l) (sines x0 θ b l) Rotations.schedule (Strands.unit j) i : ℝ) : EReal) := by
  have hv (t : Fin 20) : k0_pay4 (F := Ideal) x0 (ix2 t b) = x0 (ix2 b t) := by pointwise [k0_pay4]
  refine (scratch_at (trig x2) θ (trig_holds x2 θ hθ) (k0_pay4 (F := Ideal) x0) l j b schedule i).trans ?_
  simp only [hv]
  rfl

end Cert.Entries
end
-- ==== Proof.Normalised.lean ====
/- The kernel's two layers at an index, over the reals. -/
module

public import proofs.«01_k».proof.Proof.Entries

@[expose] public section

noncomputable section

namespace Cert.Normalised

open Cert.KernelIdeal Cert.KernelIdeal.Gen Idealize.ShloMosaic Idealize.ShloMosaic.TcCoe Cert.Rotations Cert.Layers Cert.Output Cert.Entries

/-- A row of the scratch at an index. -/
theorem row_at (X : FVec Ideal S32x1024 .f32) (n : Fin 32) (b : Fin 1024) : row X n (ix2 0 b) = X (ix2 n b) := by
  pointwise [row]

/-- A row of the scratch repeated over the hidden units. -/
theorem rows_at (X : FVec Ideal S32x1024 .f32) (n : Fin 32) (h : Fin 128) (b : Fin 1024) : rows X n (ix2 h b) = X (ix2 n b) := by
  pointwise [rows, row]

/-- The initial strands, laid out by hidden unit and repeated over the batch. -/
theorem start_at (x : FVec Ideal S4x128 .f32) (j : Fin 4) (h : Fin 128) (b : Fin 1024) : start x j (ix2 h b) = x (ix2 j h) := by
  pointwise [start, k0_pay412]

/-- The mean of an initial strand. -/
theorem startMean_at (x : FVec Ideal S4x128 .f32) (j : Fin 4) (b : Fin 1024) :
    startMean x j (ix2 0 b) = Ideal.div (∑ h : Fin 128, x (ix2 j h)) ((128 : ℝ) : EReal) := by
  have hx (h : Fin 128) : k0_pay412 x (ix2 h j) = x (ix2 j h) := by pointwise [k0_pay412]
  pointwise [startMean, k0_pay415, k0_pay413, k0_pay414]
  rw [count]
  simp only [hx]

/-- The mean square of a strand. -/
theorem meanSquare_at (a : FVec Ideal S128x1024 .f32) (b : Fin 1024) :
    meanSquare a (ix2 0 b) = Ideal.div (∑ h : Fin 128, a (ix2 h b) * a (ix2 h b)) ((128 : ℝ) : EReal) := by
  pointwise [meanSquare]
  rw [count]

/-- The inverse root of a variance plus the small constant. -/
theorem scale_at (v : FVec Ideal S1x1024 .f32) (h : Fin 128) (b : Fin 1024) :
    scale v (ix2 h b) = Ideal.rsqrt (v (ix2 0 b) + Ideal.ofBits .f32 0x3727C5AC#32) := by
  pointwise [scale]

/-- A mixed strand: the strands before the layer weighted by the scratch's entries. -/
theorem mix_at (X : FVec Ideal S32x1024 .f32) (a : Fin 4 → FVec Ideal S128x1024 .f32) (l : Fin 2) (i : Fin 4) (h : Fin 128) (b : Fin 1024) :
    mix X a l i (ix2 h b) = ∑ j : Fin 4, a j (ix2 h b) * X (ix2 (place l i j) b) := by
  rw [Fin.sum_univ_four]
  simp only [← rows_at X _ h b]
  pointwise [mix]

/-- A mixed mean: the initial means weighted by the scratch's entries. -/
theorem mixMean_at (X : FVec Ideal S32x1024 .f32) (x : FVec Ideal S4x128 .f32) (i : Fin 4) (b : Fin 1024) :
    mixMean X x i (ix2 0 b) = ∑ j : Fin 4, startMean x j (ix2 0 b) * X (ix2 (place 0 i j) b) := by
  rw [Fin.sum_univ_four]
  simp only [← row_at X _ b]
  pointwise [mixMean]

/-- The kernel's first layer at an index. -/
theorem first_at (X : FVec Ideal S32x1024 .f32) (x : FVec Ideal S4x128 .f32) (i : Fin 4) (h : Fin 128) (b : Fin 1024) :
    first X x i (ix2 h b) = (mix X (start x) 0 i (ix2 h b) - mixMean X x i (ix2 0 b))
      * Ideal.rsqrt (meanSquare (mix X (start x) 0 i) (ix2 0 b) - mixMean X x i (ix2 0 b) * mixMean X x i (ix2 0 b) + Ideal.ofBits .f32 0x3727C5AC#32) := by
  pointwise [first, scale]

/-- The kernel's second layer at an index. -/
theorem second_at (X : FVec Ideal S32x1024 .f32) (x : FVec Ideal S4x128 .f32) (i : Fin 4) (h : Fin 128) (b : Fin 1024) :
    second X x i (ix2 h b) = mix X (first X x) 1 i (ix2 h b)
      * Ideal.rsqrt (meanSquare (mix X (first X x) 1 i) (ix2 0 b) + Ideal.ofBits .f32 0x3727C5AC#32) := by
  pointwise [second, scale]

/-- A sum of reals, read as extended reals. -/
theorem real_sum {n : ℕ} (f : Fin n → ℝ) : ((∑ h, f h : ℝ) : EReal) = ∑ h, (f h : EReal) := by
  induction (Finset.univ : Finset (Fin n)) using Finset.cons_induction with
  | empty => simp
  | cons a s ha ih => rw [Finset.sum_cons, Finset.sum_cons, EReal.coe_add, ih]

/-- A real divided by 128. -/
theorem real_mean (r : ℝ) : Ideal.div (r : EReal) ((128 : ℝ) : EReal) = ((r / 128 : ℝ) : EReal) := by
  refine (Ideal.div_coe (by norm_num) _).trans ?_
  rw [← EReal.coe_mul]
  exact congrArg _ (by ring)

/-- The inverse root of a positive real. -/
theorem real_rsqrt {r : ℝ} (h : 0 < r) : Ideal.rsqrt (r : EReal) = ((Real.sqrt r)⁻¹ : ℝ) := by
  rw [Ideal.rsqrt_coe, if_neg h.not_gt, if_neg h.ne']

section Reals

variable (X : FVec Ideal S32x1024 .f32) (x1 : FVec Ideal S4x128 .f32) (x : Fin 4 → Fin 128 → ℝ) (hx : ∀ j h, x1 (ix2 j h) = (x j h : EReal))
  (b : Fin 1024) (c s : Fin 2 → Fin 20 × Fin 3 → ℝ) (L : List (Fin 20 × Fin 3))
  (hX : ∀ l i j, X (ix2 (place l i j) b) = (Strands.turns (c l) (s l) L (Strands.unit j) i : EReal))
  (e : ℝ) (he : 0 < e) (hw : Ideal.ofBits .f32 0x3727C5AC#32 = (e : EReal))

include hX in
/-- Real strands mixed by the scratch's rows. -/
theorem mix_real (a : Fin 4 → FVec Ideal S128x1024 .f32) (y : Fin 4 → Fin 128 → ℝ) (ha : ∀ j h, a j (ix2 h b) = (y j h : EReal)) (l : Fin 2)
    (i : Fin 4) (h : Fin 128) :
    mix X a l i (ix2 h b) = ((∑ j, y j h * Strands.turns (c l) (s l) L (Strands.unit j) i : ℝ) : EReal) := by
  rw [mix_at, real_sum]
  refine Finset.sum_congr rfl fun j _ => ?_
  rw [ha, hX, EReal.coe_mul]

/-- The mean square of a real strand. -/
theorem meanSquare_real (a : FVec Ideal S128x1024 .f32) (y : Fin 128 → ℝ) (ha : ∀ h, a (ix2 h b) = (y h : EReal)) :
    meanSquare a (ix2 0 b) = (((∑ h, y h * y h) / 128 : ℝ) : EReal) := by
  rw [meanSquare_at, ← real_mean, real_sum]
  refine congrArg (Ideal.div · _) (Finset.sum_congr rfl fun h _ => ?_)
  rw [ha, EReal.coe_mul]

include hX hx in
/-- The mixed means. -/
theorem mixMean_real (i : Fin 4) :
    mixMean X x1 i (ix2 0 b) = ((∑ j, Strands.mean (x j) * Strands.turns (c 0) (s 0) L (Strands.unit j) i : ℝ) : EReal) := by
  rw [mixMean_at, real_sum]
  refine Finset.sum_congr rfl fun j _ => ?_
  rw [hX, EReal.coe_mul, startMean_at]
  simp only [hx]
  rw [← real_sum, real_mean]
  rfl

include hX hx he hw in
/-- The kernel's first layer is the real layer. -/
theorem first_real (i : Fin 4) (h : Fin 128) : first X x1 i (ix2 h b) = (Strands.layer e (c 0) (s 0) L x i h : EReal) := by
  have hm := mix_real X b c s L hX (start x1) x (fun j h => (start_at x1 j h b).trans (hx j h)) 0 i
  rw [first_at, mixMean_real X x1 x hx b c s L hX, hm, meanSquare_real b _ _ hm, hw, ← EReal.coe_mul, ← EReal.coe_sub, ← EReal.coe_sub,
    ← EReal.coe_add, real_rsqrt (Strands.mixed_pos he ..), ← EReal.coe_mul, ← Strands.layer_mixed]

include hX hx he hw in
/-- The kernel's second layer is the real layer of the first's. -/
theorem second_real (i : Fin 4) (h : Fin 128) :
    second X x1 i (ix2 h b) = (Strands.layer e (c 1) (s 1) L (Strands.layer e (c 0) (s 0) L x) i h : EReal) := by
  have hm := mix_real X b c s L hX (first X x1) _ (first_real X x1 x hx b c s L hX e he hw) 1 i
  rw [second_at, hm, meanSquare_real b _ _ hm, hw, ← EReal.coe_add, real_rsqrt (Strands.centred_pos he ..), ← EReal.coe_mul,
    ← Strands.layer_centred e (c 1) (s 1) L (Strands.layer e (c 0) (s 0) L x) (fun j => Strands.mean_norm ..) i h]

end Reals

end Cert.Normalised
end
-- ==== Proof.Perceptron.lean ====
/- The kernel's three dense layers at an index. -/
module

public import proofs.«01_k».proof.Proof.Normalised

@[expose] public section

noncomputable section

namespace Cert.Perceptron

open Cert.KernelIdeal Cert.KernelIdeal.Gen Idealize.ShloMosaic Idealize.ShloMosaic.TcCoe Cert.Rotations Cert.Layers Cert.Output Cert.Entries

/-- Feature `h` of strand `i` among the 512. -/
def feature (i : Fin 4) (h : Fin 128) : Fin 512 := ⟨128 * i.val + h.val, by omega⟩

/-- The first dense layer before its threshold, as the kernel adds it up. -/
theorem hiddenSum_at (X : FVec Ideal S32x1024 .f32) (x : FVec Ideal S4x128 .f32) (w : Fin 3 → FVec Ideal S128x128 .f32) (x6 : FVec Ideal S128 .f32)
    (k : Fin 128) (b : Fin 1024) :
    hiddenSum X x w x6 (ix2 k b) = x6 (ix1 k) + ∑ h : Fin 128, w 0 (ix2 k h) * second X x 0 (ix2 h b)
      + ∑ h : Fin 128, w 1 (ix2 k h) * second X x 1 (ix2 h b) + ∑ h : Fin 128, w 2 (ix2 k h) * second X x 2 (ix2 h b) := by
  unfold hiddenSum
  pointwise [k0_pay442, k0_pay441]

/-- The three dense layers of the strands `y`, output `o`. -/
def outputs (x5 : FVec Ideal S128x512 .f32) (x6 : FVec Ideal S128 .f32) (x7 : FVec Ideal S64x128 .f32) (x8 : FVec Ideal S64 .f32)
    (x9 : FVec Ideal S2x64 .f32) (x10 : FVec Ideal S2 .f32) (y : Fin 4 → Fin 128 → EReal) (o : Fin 2) : EReal :=
  ∑ n : Fin 64, x9 (ix2 o n) * max (∑ k : Fin 128, x7 (ix2 n k) * max (x6 (ix1 k) + ∑ i : Fin 4, ∑ h : Fin 128, x5 (ix2 k (feature i h)) * y i h) 0
    + x8 (ix1 n)) 0 + x10 (ix1 o)

/-- A block of the first weights at an index. -/
theorem column_at (x5 : FVec Ideal S128x512 .f32) (o : ℕ) (ho) (k h : Fin 128) (q : Fin 512) (hq : q.val = o + h.val) :
    block x5 o ho (ix2 k h) = x5 (ix2 k q) := by
  refine congrArg x5 (funext fun a => Fin.ext ?_)
  match a with
  | ⟨0, _⟩ => show 0 + 1 * k.val = k.val; omega
  | ⟨1, _⟩ => show o + 1 * h.val = q.val; omega

/-- A block of the first weight matrix: its columns are the strand's features. -/
theorem block_at (x5 : FVec Ideal S128x512 .f32) (i : Fin 4) (k h : Fin 128) : blocks x5 i (ix2 k h) = x5 (ix2 k (feature i h)) := by
  match i with
  | 0 => exact column_at x5 _ _ k h _ rfl
  | 1 => exact column_at x5 _ _ k h _ rfl
  | 2 => exact column_at x5 _ _ k h _ rfl
  | 3 => exact column_at x5 _ _ k h _ rfl

/-- A sum over the 512 features is one over the strands and their features. -/
theorem sum_features (f : Fin 512 → EReal) : ∑ q : Fin 512, f q = ∑ i : Fin 4, ∑ h : Fin 128, f (feature i h) := by
  rw [← Fintype.sum_prod_type']
  refine (Equiv.sum_comp (finProdFinEquiv : Fin 4 × Fin 128 ≃ Fin (4 * 128)) (fun q : Fin (4 * 128) => f q)).symm.trans ?_
  refine Finset.sum_congr rfl fun x _ => congrArg f (Fin.ext ?_)
  show x.2.val + 128 * x.1.val = 128 * x.1.val + x.2.val
  omega

/-- The first dense layer of the kernel before its rectifier. -/
theorem hidden_at (X : FVec Ideal S32x1024 .f32) (x1 : FVec Ideal S4x128 .f32) (x5 : FVec Ideal S128x512 .f32) (x6 : FVec Ideal S128 .f32)
    (k : Fin 128) (b : Fin 1024) :
    hiddenSum X x1 ![blocks x5 0, blocks x5 1, blocks x5 2] x6 (ix2 k b) + ∑ h : Fin 128, blocks x5 3 (ix2 k h) * second X x1 3 (ix2 h b)
      = x6 (ix1 k) + ∑ i : Fin 4, ∑ h : Fin 128, x5 (ix2 k (feature i h)) * second X x1 i (ix2 h b) := by
  rw [hiddenSum_at, Fin.sum_univ_four]
  simp only [block_at, Matrix.cons_val_zero, Matrix.cons_val_one, Matrix.cons_val, add_assoc]

/-- The kernel's first result at an index. -/
theorem result0_at (X : FVec Ideal S32x1024 .f32) (x1 : FVec Ideal S4x128 .f32) (x5 : FVec Ideal S128x512 .f32) (x6 : FVec Ideal S128 .f32)
    (x7 : FVec Ideal S64x128 .f32) (x8 : FVec Ideal S64 .f32) (x9 : FVec Ideal S2x64 .f32) (x10 : FVec Ideal S2 .f32) (b : Fin 1024) :
    result0 X x1 (blocks x5) x6 x7 x8 x9 x10 (ix1 b) = Ideal.logistic (outputs x5 x6 x7 x8 x9 x10 (fun i h => second X x1 i (ix2 h b)) 0) := by
  unfold result0 outputs
  simp only [← hidden_at X x1]
  pointwise [k0_pay2, k0_pay1, k0_pay439, k0_pay440]

/-- The kernel's second result at an index. -/
theorem result1_at (X : FVec Ideal S32x1024 .f32) (x1 : FVec Ideal S4x128 .f32) (x5 : FVec Ideal S128x512 .f32) (x6 : FVec Ideal S128 .f32)
    (x7 : FVec Ideal S64x128 .f32) (x8 : FVec Ideal S64 .f32) (x9 : FVec Ideal S2x64 .f32) (x10 : FVec Ideal S2 .f32) (b : Fin 1024) :
    result1 X x1 (blocks x5) x6 x7 x8 x9 x10 (ix1 b) = outputs x5 x6 x7 x8 x9 x10 (fun i h => second X x1 i (ix2 h b)) 1 := by
  unfold result1 outputs
  simp only [← hidden_at X x1]
  pointwise [k0_pay3, k0_pay1, k0_pay439, k0_pay440]

end Cert.Perceptron
end
-- ==== Proof.Reference.lean ====
/- The reference's dense layers at an index. -/
module

public import proofs.«01_k».proof.Proof.Perceptron
public import proofs.«01_k».proof.Proof.Gen.ReferenceIdeal.Run

@[expose] public section

set_option maxRecDepth 8192

noncomputable section

namespace Cert.Reference

open Cert.ReferenceIdeal Cert.ReferenceIdeal.Gen Cert.ReferenceIdeal.Value Idealize.ShloMosaic Idealize.ShloMosaic.TcCoe Idealize.ShloMosaic.StableHlo
open Cert.Perceptron

variable (V : Valuation τ sig (Elt Ideal))

/-- The carried buffers and the arguments, as arrays. -/
def braids : IVec S1024x20 32 := V (Proc.devRef .tc main_v2_0)
def thetas : FVec Ideal S2x3 .f32 := V (Proc.devRef .tc main_v2_1)
def gamma : FVec Ideal S2x128 .f32 := V (Proc.devRef .tc main_v2_2)
def beta : FVec Ideal S2x128 .f32 := V (Proc.devRef .tc main_v2_3)
def counter : IVec S_ 32 := V (Proc.devRef .tc main_v2_5)
def state : FVec Ideal S1024x4x128 .f32 := V (Proc.devRef .tc main_v2_6)
def weight1 : FVec Ideal S128x512 .f32 := V (Proc.devRef .tc main_arg5)
def bias1 : FVec Ideal S128 .f32 := V (Proc.devRef .tc main_arg6)
def weight2 : FVec Ideal S64x128 .f32 := V (Proc.devRef .tc main_arg7)
def bias2 : FVec Ideal S64 .f32 := V (Proc.devRef .tc main_arg8)
def weight3 : FVec Ideal S2x64 .f32 := V (Proc.devRef .tc main_arg9)
def bias3 : FVec Ideal S2 .f32 := V (Proc.devRef .tc main_arg10)

/-- The reference's dense layers over the flattened state are `outputs` of the strands. -/
theorem outputs_eq (x5 : FVec Ideal S128x512 .f32) (x6 : FVec Ideal S128 .f32) (x7 : FVec Ideal S64x128 .f32) (x8 : FVec Ideal S64 .f32)
    (x9 : FVec Ideal S2x64 .f32) (x10 : FVec Ideal S2 .f32) (y : FVec Ideal S1024x4x128 .f32) (b : Fin 1024) (o : Fin 2) :
    ∑ n : Fin 64, max (∑ k : Fin 128, max (∑ q : Fin 512, y (ix3 b (⟨q.val / 128, by omega⟩ : Fin 4) (⟨q.val % 128, by omega⟩ : Fin 128)) * x5 (ix2 k q)
      + x6 (ix1 k)) 0 * x7 (ix2 n k) + x8 (ix1 n)) 0 * x9 (ix2 o n) + x10 (ix1 o)
    = outputs x5 x6 x7 x8 x9 x10 (fun i h => y (ix3 b i h)) o := by
  unfold outputs
  have e (k : Fin 128) : ∑ q : Fin 512, y (ix3 b (⟨q.val / 128, by omega⟩ : Fin 4) (⟨q.val % 128, by omega⟩ : Fin 128)) * x5 (ix2 k q)
      = ∑ i : Fin 4, ∑ h : Fin 128, x5 (ix2 k (feature i h)) * y (ix3 b i h) := by
    rw [sum_features]
    refine Finset.sum_congr rfl fun i _ => Finset.sum_congr rfl fun h _ => ?_
    rw [mul_comm]
    refine congrArg (_ * y ·) ?_
    have h1 : (feature i h).val / 128 = i.val := by unfold feature; simp only; omega
    have h2 : (feature i h).val % 128 = h.val := by unfold feature; simp only; omega
    exact congrArg₂ (ix3 b) (Fin.ext h1) (Fin.ext h2)
  refine congrArg (· + _) (Finset.sum_congr rfl fun n _ => ?_)
  rw [mul_comm]
  refine congrArg (fun z => _ * max (z + _) 0) (Finset.sum_congr rfl fun k _ => ?_)
  rw [mul_comm, e, add_comm]

/-- The reference's first result over its last state. -/
theorem out30_at (b : Fin 1024) : (show FVec Ideal S1024 .f32 from out_main_v30 V) (ix1 b) =
    Ideal.logistic (outputs (weight1 V) (bias1 V) (weight2 V) (bias2 V) (weight3 V) (bias3 V) (fun i h => state V (ix3 b i h)) 0) := by
  rw [← outputs_eq]
  unfold out_main_v30
  pointwise []
  rfl

/-- The reference's second result over its last state. -/
theorem out32_at (b : Fin 1024) : (show FVec Ideal S1024 .f32 from out_main_v32 V) (ix1 b) =
    outputs (weight1 V) (bias1 V) (weight2 V) (bias2 V) (weight3 V) (bias3 V) (fun i h => state V (ix3 b i h)) 1 := by
  rw [← outputs_eq]
  unfold out_main_v32
  pointwise []
  rfl

end Cert.Reference
end
-- ==== Proof.Trip.lean ====
/- One trip of the reference's loop at an index: three rotations, and at a layer's last step the normalisation. -/
module

public import proofs.«01_k».proof.Proof.Reference

@[expose] public section

set_option maxRecDepth 8192

noncomputable section

namespace Cert.Trip

open Cert.ReferenceIdeal Cert.ReferenceIdeal.Gen Cert.ReferenceIdeal.Value Idealize.ShloMosaic Idealize.ShloMosaic.TcCoe Idealize.ShloMosaic.StableHlo
open Cert.Entries Cert.Reference Cert.Rotations

/-- Position `p` is active for the generator `g`. -/
def active (g : BitVec 32) (q : BitVec 32) : BitVec 1 :=
  IntOp.andi (IntOp.cmpi .ne g 0#32) (IntOp.cmpi .eq (IntOp.subi (IntOp.absi g) 1#32) q)

/-- The sign of a generator. -/
def signOf (g : BitVec 32) : BitVec 32 := if g = 0 then 0 else if g.msb then -1 else 1

/-- The position as the reference writes it. -/
def position (p : Fin 3) : BitVec 32 := match p with | 0 => 0#32 | 1 => 1#32 | 2 => 2#32

/-- A position's word is not zero. -/
theorem word_ne (p : Fin 3) : word p ≠ 0#32 := by
  revert p; decide

/-- A position is its word less one. -/
theorem word_sub (p : Fin 3) : word p - 1#32 = position p := by
  revert p; decide

/-- The absolute value of zero. -/
theorem absi_zero : IntOp.absi (0#32) = 0#32 := by decide

/-- A generator less one is a position exactly when it is the position's word. -/
theorem position_iff (a : BitVec 32) (p : Fin 3) : a - 1#32 = position p ↔ a = word p := by
  rw [← word_sub]
  constructor
  · intro h; bv_omega
  · intro h; rw [h]

/-- A selection on an active generator is a conditional on its absolute value. -/
theorem select_active {α : Type} (g : BitVec 32) (p : Fin 3) (x y : α) :
    Scalar.select (active g (position p)) x y = if IntOp.absi g = word p then x else y := by
  have h1 : (IntOp.absi g - 1#32 == position p) = decide (IntOp.absi g = word p) := by
    rw [beq_eq_decide]
    exact decide_eq_decide.mpr (position_iff ..)
  unfold Scalar.select active IntOp.andi IntOp.cmpi IntOp.subi
  simp only [h1]
  by_cases h : IntOp.absi g = word p
  · have h2 : g ≠ 0#32 := fun e => word_ne p (by rw [← h, e, absi_zero])
    have h3 : (g != 0#32) = true := by simpa using h2
    simp [h, h3]
  · simp [h]

/-- A generator that is not zero: its sign is one if it is positive and minus one otherwise. -/
theorem sign_eq (g : BitVec 32) (hg : g ≠ 0#32) : ((signOf g).toInt : ℝ) = if (0#32).slt g then 1 else -1 := by
  unfold signOf
  rw [if_neg (show ¬ g = 0 from hg)]
  by_cases h : g.msb
  · have : (0#32).slt g = false := by
      rw [BitVec.slt_eq_decide]
      have := BitVec.toInt_neg_of_msb_true h
      simp; omega
    rw [if_pos h, this]
    simp
  · have h0 : g.msb = false := by simpa using h
    have : (0#32).slt g = true := by
      rw [BitVec.slt_eq_decide]
      have h1 := BitVec.toInt_nonneg_of_msb_false h0
      have h2 : g.toInt ≠ 0 := fun e => hg (BitVec.eq_of_toInt_eq (by simpa using e))
      simp; omega
    rw [if_neg h, this]
    simp

/-- The reference's angle at an active position has the kernel's cosine and sine factors. -/
theorem cosine_eq (g : BitVec 32) (p : Fin 3) (θ : ℝ) (h : IntOp.absi g = word p) :
    Ideal.cos ((θ : EReal) * (((signOf g).toInt : ℝ) : EReal)) = (cosine g p θ : EReal) := by
  have hg : g ≠ 0#32 := fun e => word_ne p (by rw [← h, e, absi_zero])
  rw [sign_eq g hg, ← EReal.coe_mul, Ideal.cos_coe]
  unfold cosine
  split_ifs <;> simp

/-- The sine of the signed angle. -/
theorem sine_eq (g : BitVec 32) (p : Fin 3) (θ : ℝ) (h : IntOp.absi g = word p) :
    Ideal.sin ((θ : EReal) * (((signOf g).toInt : ℝ) : EReal)) = (sine g p θ : EReal) := by
  have hg : g ≠ 0#32 := fun e => word_ne p (by rw [← h, e, absi_zero])
  rw [sign_eq g hg, ← EReal.coe_mul, Ideal.sin_coe]
  unfold sine
  split_ifs <;> simp

/-- The reference's upper strand after a rotation. -/
theorem upper_eq (g : BitVec 32) (p : Fin 3) (θ u v : ℝ) :
    Scalar.select (active g (position p)) ((u : EReal) * Ideal.cos ((θ : EReal) * (((signOf g).toInt : ℝ) : EReal))
        - (v : EReal) * Ideal.sin ((θ : EReal) * (((signOf g).toInt : ℝ) : EReal))) (u : EReal)
      = ((cosine g p θ * u - sine g p θ * v : ℝ) : EReal) := by
  rw [select_active]
  by_cases h : IntOp.absi g = word p
  · rw [if_pos h, cosine_eq g p θ h, sine_eq g p θ h]
    push_cast
    rw [mul_comm, mul_comm (v : EReal)]
  · rw [if_neg h]
    unfold cosine sine
    rw [if_neg h, if_neg h]
    simp

/-- The reference's lower strand after a rotation. -/
theorem lower_eq (g : BitVec 32) (p : Fin 3) (θ u v : ℝ) :
    Scalar.select (active g (position p)) ((u : EReal) * Ideal.sin ((θ : EReal) * (((signOf g).toInt : ℝ) : EReal))
        + (v : EReal) * Ideal.cos ((θ : EReal) * (((signOf g).toInt : ℝ) : EReal))) (v : EReal)
      = ((sine g p θ * u + cosine g p θ * v : ℝ) : EReal) := by
  rw [select_active]
  by_cases h : IntOp.absi g = word p
  · rw [if_pos h, cosine_eq g p θ h, sine_eq g p θ h]
    push_cast
    rw [mul_comm, mul_comm (v : EReal)]
  · rw [if_neg h]
    unfold cosine sine
    rw [if_neg h, if_neg h]
    simp

/-- A trip's number divided by 20 is its layer. -/
theorem quotient (l : Fin 2) (t : Fin 20) : IntOp.divsi .host (BitVec.ofNat 32 (20 * l.val + t.val)) 20#32 = BitVec.ofNat 32 l.val := by
  revert l t
  decide +kernel

/-- A trip's number modulo 20 is its step. -/
theorem remainder (l : Fin 2) (t : Fin 20) : IntOp.remsi .host (BitVec.ofNat 32 (20 * l.val + t.val)) 20#32 = BitVec.ofNat 32 t.val := by
  revert l t
  decide +kernel

/-- The start of the slice of the generators at step `t`. -/
def braidStart (t : Fin 20) : Fin 2 → ℤ := fun k => BitVec.toInt ((![constantI S_ 32 0#32,
  select (cmpi .slt (fun _ => BitVec.ofNat 32 t.val) (constantI S_ 32 0#32)) (addi (id fun _ => BitVec.ofNat 32 t.val) (constantI S_ 32 20#32))
    fun _ => BitVec.ofNat 32 t.val] : Fin 2 → IVec S_ 32) k (Shape.Idx.first h_S_))

/-- The braid column is read from the first row. -/
theorem braid_row (t : Fin 20) : Host.clampedStart S1024x20 S1024x1 rfl (braidStart t) 0 = 0 := by
  revert t
  decide +kernel

/-- The braid column read is the step's. -/
theorem braid_column (t : Fin 20) : Host.clampedStart S1024x20 S1024x1 rfl (braidStart t) 1 = t.val := by
  revert t
  decide +kernel

/-- The start of a slice at layer `l`. -/
def layerStart (l : Fin 2) : Fin 2 → ℤ := fun k => BitVec.toInt ((![
  select (cmpi .slt (fun _ => BitVec.ofNat 32 l.val) (constantI S_ 32 0#32)) (addi (id fun _ => BitVec.ofNat 32 l.val) (constantI S_ 32 2#32))
    fun _ => BitVec.ofNat 32 l.val, constantI S_ 32 0#32] : Fin 2 → IVec S_ 32) k (Shape.Idx.first h_S_))

/-- The row of angles read is the layer's. -/
theorem theta_row (l : Fin 2) : Host.clampedStart S2x3 S1x3 rfl (layerStart l) 0 = l.val := by
  revert l
  decide +kernel

/-- The row of angles is read from its first entry. -/
theorem theta_column (l : Fin 2) : Host.clampedStart S2x3 S1x3 rfl (layerStart l) 1 = 0 := by
  revert l
  decide +kernel

section Step

variable (V : Valuation τ sig (Elt Ideal)) (l : Fin 2) (t : Fin 20) (hk : counter V = fun _ => BitVec.ofNat 32 (20 * l.val + t.val))

include hk in
/-- The trip's layer. -/
theorem layer_number : res_main_while0b_v34 V = fun _ => BitVec.ofNat 32 l.val :=
  funext fun y => (congrArg (fun z : IVec S_ 32 => IntOp.divsi .host (z y) 20#32) hk).trans (quotient l t)

include hk in
/-- The trip's step. -/
theorem step_number : res_main_while0b_v35 V = fun _ => BitVec.ofNat 32 t.val :=
  funext fun y => (congrArg (fun z : IVec S_ 32 => IntOp.remsi .host (z y) 20#32) hk).trans (remainder l t)

include hk in
/-- The generators of the trip are the step's column of braids. -/
theorem generator_at (b : Fin 1024) : (show IVec S1024x1 32 from res_main_while0b_v40 V) (ix2 b 0) = braids V (ix2 b t) := by
  unfold res_main_while0b_v40
  rw [step_number V l t hk]
  pointwise []
  refine congrArg (braids V) (congrArg₂ ix2 (Fin.ext ?_) (Fin.ext ?_))
  · exact (congrArg (· + b.val) (braid_row t)).trans (Nat.zero_add _)
  · exact braid_column t

include hk in
/-- The angles of the trip are the layer's row. -/
theorem theta_at (p : Fin 3) : (show FVec Ideal S1x3 .f32 from res_main_while0b_v45 V) (ix2 0 p) = thetas V (ix2 l p) := by
  unfold res_main_while0b_v45
  rw [layer_number V l t hk]
  pointwise []
  refine congrArg (thetas V) (congrArg₂ ix2 (Fin.ext ?_) (Fin.ext ?_))
  · exact theta_row l
  · exact (congrArg (· + p.val) (theta_column l)).trans (Nat.zero_add _)

variable (b : Fin 1024) (θ : Fin 2 → Fin 3 → ℝ) (hθ : ∀ l p, thetas V (ix2 l p) = (θ l p : EReal))
  (x : Fin 4 → Fin 128 → ℝ) (hx : ∀ i h, state V (ix3 b i h) = (x i h : EReal))

include hx in
/-- The first strand before the trip. -/
theorem row0 (h : Fin 128) : (show FVec Ideal S1024x128 .f32 from res_main_while0b_v47 V) (ix2 b h) = (x 0 h : EReal) := by
  rw [← hx]; unfold res_main_while0b_v47; pointwise []; rfl

include hx in
/-- The second strand before the trip. -/
theorem row1 (h : Fin 128) : (show FVec Ideal S1024x128 .f32 from res_main_while0b_v49 V) (ix2 b h) = (x 1 h : EReal) := by
  rw [← hx]; unfold res_main_while0b_v49; pointwise []; rfl

include hx in
/-- The third strand before the trip. -/
theorem row2 (h : Fin 128) : (show FVec Ideal S1024x128 .f32 from res_main_while0b_v51 V) (ix2 b h) = (x 2 h : EReal) := by
  rw [← hx]; unfold res_main_while0b_v51; pointwise []; rfl

include hx in
/-- The fourth strand before the trip. -/
theorem row3 (h : Fin 128) : (show FVec Ideal S1024x128 .f32 from res_main_while0b_v53 V) (ix2 b h) = (x 3 h : EReal) := by
  rw [← hx]; unfold res_main_while0b_v53; pointwise []; rfl

/-- The generator of the trip. -/
def generator : BitVec 32 := braids V (ix2 b t)

include hk in
/-- Where the first position is active. -/
theorem active0 : (show IVec S1024x1 1 from res_main_while0b_v61 V) (ix2 b 0) = active (generator V t b) (position 0) := by
  unfold generator; rw [← generator_at V l t hk]; unfold res_main_while0b_v61; pointwise []; rfl

include hk in
/-- Where the second position is active. -/
theorem active1 : (show IVec S1024x1 1 from res_main_while0b_v88 V) (ix2 b 0) = active (generator V t b) (position 1) := by
  unfold generator; rw [← generator_at V l t hk]; unfold res_main_while0b_v88; pointwise []; rfl

include hk in
/-- Where the third position is active. -/
theorem active2 : (show IVec S1024x1 1 from res_main_while0b_v115 V) (ix2 b 0) = active (generator V t b) (position 2) := by
  unfold generator; rw [← generator_at V l t hk]; unfold res_main_while0b_v115; pointwise []; rfl

include hk hθ in
/-- The signed angle of the first position. -/
theorem angle0 : (show FVec Ideal S1024x1 .f32 from res_main_while0b_v66 V) (ix2 b 0) = (θ l 0 : EReal) * (((signOf (generator V t b)).toInt : ℝ) : EReal) := by
  unfold generator; rw [← generator_at V l t hk, ← hθ, ← theta_at V l t hk]; unfold res_main_while0b_v66; pointwise []; rfl

include hk hθ in
/-- The signed angle of the second position. -/
theorem angle1 : (show FVec Ideal S1024x1 .f32 from res_main_while0b_v93 V) (ix2 b 0) = (θ l 1 : EReal) * (((signOf (generator V t b)).toInt : ℝ) : EReal) := by
  unfold generator; rw [← generator_at V l t hk, ← hθ, ← theta_at V l t hk]; unfold res_main_while0b_v93; pointwise []; rfl

include hk hθ in
/-- The signed angle of the third position. -/
theorem angle2 : (show FVec Ideal S1024x1 .f32 from res_main_while0b_v120 V) (ix2 b 0) = (θ l 2 : EReal) * (((signOf (generator V t b)).toInt : ℝ) : EReal) := by
  unfold generator; rw [← generator_at V l t hk, ← hθ, ← theta_at V l t hk]; unfold res_main_while0b_v120; pointwise []; rfl

/-- The second strand after the first rotation, as a real. -/
def lowered1 (h : Fin 128) : ℝ := sine (generator V t b) 0 (θ l 0) * x 0 h + cosine (generator V t b) 0 (θ l 0) * x 1 h
/-- The third strand after the second rotation, as a real. -/
def lowered2 (h : Fin 128) : ℝ :=
  sine (generator V t b) 1 (θ l 1) * lowered1 V l t b θ x h + cosine (generator V t b) 1 (θ l 1) * x 2 h

include hk hθ hx in
/-- The second strand after the first rotation. -/
theorem second_row (h : Fin 128) : (show FVec Ideal S1024x128 .f32 from res_main_while0b_v80 V) (ix2 b h)
    = (lowered1 V l t b θ x h : EReal) := by
  unfold lowered1
  rw [← lower_eq, ← angle0 V l t hk b θ hθ, ← active0 V l t hk b, ← row0 V b x hx, ← row1 V b x hx]
  unfold res_main_while0b_v80 res_main_while0b_v67 res_main_while0b_v68
  pointwise []

include hk hθ hx in
/-- The third strand after the second rotation. -/
theorem third_row (h : Fin 128) : (show FVec Ideal S1024x128 .f32 from res_main_while0b_v107 V) (ix2 b h)
    = (lowered2 V l t b θ x h : EReal) := by
  unfold lowered2
  rw [← lower_eq, ← angle1 V l t hk b θ hθ, ← active1 V l t hk b, ← second_row V l t hk b θ hθ x hx, ← row2 V b x hx]
  unfold res_main_while0b_v107 res_main_while0b_v94 res_main_while0b_v95
  pointwise []

/-- The trip's cosines, by position. -/
def tripCos (p : Fin 3) : ℝ := cosine (generator V t b) p (θ l p)
/-- The trip's sines, by position. -/
def tripSin (p : Fin 3) : ℝ := sine (generator V t b) p (θ l p)

/-- Strands after the trip's three rotations. -/
def turned (v : Fin 4 → ℝ) : Fin 4 → ℝ :=
  Strands.turn 2 (tripCos V l t b θ 2) (tripSin V l t b θ 2) (Strands.turn 1 (tripCos V l t b θ 1) (tripSin V l t b θ 1)
    (Strands.turn 0 (tripCos V l t b θ 0) (tripSin V l t b θ 0) v))

include hk hθ hx in
/-- The state after the three rotations. -/
theorem turned_at (i : Fin 4) (h : Fin 128) : (show FVec Ideal S1024x4x128 .f32 from res_main_while0b_v139 V) (ix3 b i h)
    = (turned V l t b θ (fun i => x i h) i : EReal) := by
  have a0 := active0 V l t hk b
  have a1 := active1 V l t hk b
  have a2 := active2 V l t hk b
  have e0 := angle0 V l t hk b θ hθ
  have e1 := angle1 V l t hk b θ hθ
  have e2 := angle2 V l t hk b θ hθ
  have r0 := row0 V b x hx h
  have r1 := row1 V b x hx h
  have r2 := row2 V b x hx h
  have r3 := row3 V b x hx h
  have q1 := second_row V l t hk b θ hθ x hx h
  have q2 := third_row V l t hk b θ hθ x hx h
  unfold res_main_while0b_v139 res_main_while0b_v67 res_main_while0b_v68 res_main_while0b_v94 res_main_while0b_v95 res_main_while0b_v121 res_main_while0b_v122
  match i with
  | 0 =>
    refine Eq.trans ?_ (upper_eq (generator V t b) 0 (θ l 0) (x 0 h) (x 1 h))
    rw [← e0, ← a0, ← r0, ← r1]
    pointwise []
  | 1 =>
    refine Eq.trans ?_ (upper_eq (generator V t b) 1 (θ l 1) (lowered1 V l t b θ x h) (x 2 h))
    rw [← e1, ← a1, ← q1, ← r2]
    pointwise []
  | 2 =>
    refine Eq.trans ?_ (upper_eq (generator V t b) 2 (θ l 2) (lowered2 V l t b θ x h) (x 3 h))
    rw [← e2, ← a2, ← q2, ← r3]
    pointwise []
  | 3 =>
    refine Eq.trans ?_ (lower_eq (generator V t b) 2 (θ l 2) (lowered2 V l t b θ x h) (x 3 h))
    rw [← e2, ← a2, ← q2, ← r3]
    pointwise []

end Step

end Cert.Trip
end
-- ==== Proof.Loop.lean ====
/- One whole trip of the reference's loop: the rotations, then at a layer's last step the normalisation. -/
module

public import proofs.«01_k».proof.Proof.Trip
public import proofs.«01_k».proof.Proof.Normalised

@[expose] public section

set_option maxRecDepth 8192

noncomputable section

namespace Cert.Loop

open Cert.ReferenceIdeal Cert.ReferenceIdeal.Gen Cert.ReferenceIdeal.Value Idealize.ShloMosaic Idealize.ShloMosaic.TcCoe Idealize.ShloMosaic.StableHlo
open Cert.Entries Cert.Reference Cert.Trip Cert.Normalised

/-- A step other than the last has another word. -/
theorem step_ne : ∀ t : Fin 20, ¬ t = 19 → ¬ BitVec.ofNat 32 t.val = 19#32 := by decide

section Trip

variable (V : Valuation τ sig (Elt Ideal))

/-- The trip's means, of the rotated state. -/
theorem mean_at (b : Fin 1024) (i : Fin 4) : (show FVec Ideal S1024x4x1 .f32 from res_main_while0b_v153 V) (ix3 b i 0)
    = Ideal.div (∑ h : Fin 128, (show FVec Ideal S1024x4x128 .f32 from res_main_while0b_v139 V) (ix3 b i h)) ((128 : ℝ) : EReal) := by
  unfold res_main_while0b_v153
  generalize res_main_while0b_v139 V = Y
  rw [← count]
  pointwise []

/-- The trip's centred state. -/
theorem centre_at (b : Fin 1024) (i : Fin 4) (h : Fin 128) : (show FVec Ideal S1024x4x128 .f32 from res_main_while0b_v155 V) (ix3 b i h)
    = (show FVec Ideal S1024x4x128 .f32 from res_main_while0b_v139 V) (ix3 b i h)
      - (show FVec Ideal S1024x4x1 .f32 from res_main_while0b_v153 V) (ix3 b i 0) := by
  unfold res_main_while0b_v155
  pointwise []

/-- The trip's new state, under plain scales and offsets: normalised at step 19, only rotated before. -/
theorem step_at (hg : gamma V = fun _ => 1) (hb : beta V = fun _ => 0) (b : Fin 1024) (i : Fin 4) (h : Fin 128) :
    (show FVec Ideal S1024x4x128 .f32 from step_main_v2_6 V) (ix3 b i h)
    = if (show IVec S_ 32 from res_main_while0b_v35 V) ix0 = 19#32
      then Ideal.div ((show FVec Ideal S1024x4x128 .f32 from res_main_while0b_v139 V) (ix3 b i h)
          - (show FVec Ideal S1024x4x1 .f32 from res_main_while0b_v153 V) (ix3 b i 0))
        (Ideal.sqrt (Ideal.div (∑ h : Fin 128, (show FVec Ideal S1024x4x128 .f32 from res_main_while0b_v155 V) (ix3 b i h)
          * (show FVec Ideal S1024x4x128 .f32 from res_main_while0b_v155 V) (ix3 b i h)) ((128 : ℝ) : EReal) + Ideal.ofBits .f32 0x3727C5AC#32))
      else (show FVec Ideal S1024x4x128 .f32 from res_main_while0b_v139 V) (ix3 b i h) := by
  have hg' : V (Proc.devRef .tc main_v2_2) = fun _ => (1 : EReal) := hg
  have hb' : V (Proc.devRef .tc main_v2_3) = fun _ => (0 : EReal) := hb
  unfold step_main_v2_6
  rw [id_eq]
  rw [hg', hb', ← count]
  generalize res_main_while0b_v139 V = Y
  generalize res_main_while0b_v153 V = M
  generalize res_main_while0b_v155 V = D
  generalize res_main_while0b_v35 V = t
  generalize res_main_while0b_v34 V = l
  pointwise []
  exact select_eq ..

section Step

variable (l : Fin 2) (t : Fin 20) (hk : counter V = fun _ => BitVec.ofNat 32 (20 * l.val + t.val))
  (hg : gamma V = fun _ => 1) (hb : beta V = fun _ => 0)
  (b : Fin 1024) (θ : Fin 2 → Fin 3 → ℝ) (hθ : ∀ l p, thetas V (ix2 l p) = (θ l p : EReal))
  (x : Fin 4 → Fin 128 → ℝ) (hx : ∀ i h, state V (ix3 b i h) = (x i h : EReal))
  (e : ℝ) (he : 0 < e) (hw : Ideal.ofBits .f32 0x3727C5AC#32 = (e : EReal))

/-- The strands after the trip's rotations. -/
def rotated (i : Fin 4) (h : Fin 128) : ℝ := turned V l t b θ (fun i => x i h) i

/-- Division by the root of a positive number. -/
theorem real_ratio {v : ℝ} (hv : 0 < v) (r : ℝ) : Ideal.div (r : EReal) (Ideal.sqrt (v : EReal)) = ((r / Real.sqrt v : ℝ) : EReal) := by
  rw [Ideal.sqrt_coe, if_neg hv.not_gt]
  refine (Ideal.div_coe (Real.sqrt_pos.2 hv).ne' _).trans ?_
  rw [← EReal.coe_mul]
  exact congrArg _ (by ring)

include hk hg hb hθ hx he hw in
/-- A trip over real strands: the rotations, normalised when the step is the layer's last. -/
theorem trip_at (i : Fin 4) (h : Fin 128) :
    state (STEP V) (ix3 b i h) = (((if t = 19 then Strands.norm e (rotated V l t b θ x i) h else rotated V l t b θ x i h : ℝ)) : EReal) := by
  have hy (h : Fin 128) := turned_at V l t hk b θ hθ x hx i h
  have hm : (show FVec Ideal S1024x4x1 .f32 from res_main_while0b_v153 V) (ix3 b i 0) = (Strands.mean (rotated V l t b θ x i) : EReal) := by
    rw [mean_at]
    simp only [hy]
    rw [← real_sum, real_mean]
    rfl
  have hd (h : Fin 128) : (show FVec Ideal S1024x4x128 .f32 from res_main_while0b_v155 V) (ix3 b i h)
      = ((rotated V l t b θ x i h - Strands.mean (rotated V l t b θ x i) : ℝ) : EReal) := by
    rw [centre_at, hm, hy, EReal.coe_sub]
    rfl
  refine (congrFun (STEP_main_v2_6 V) (ix3 b i h)).trans ((step_at V hg hb b i h).trans ?_)
  rw [step_number V l t hk]
  by_cases ht : t = 19
  · rw [if_pos ht, if_pos (show BitVec.ofNat 32 t.val = 19#32 by rw [ht]; rfl), ← centre_at]
    simp only [hd, ← EReal.coe_mul]
    rw [← real_sum, real_mean, hw, ← EReal.coe_add, real_ratio]
    · rfl
    · exact add_pos_of_nonneg_of_pos (div_nonneg (Finset.sum_nonneg fun h _ => mul_self_nonneg _) (by norm_num)) he
  · rw [if_neg ht, if_neg (show ¬ BitVec.ofNat 32 t.val = 19#32 from step_ne t ht), hy]
    rfl

end Step

end Trip

/-- The first `t` steps of a layer, last rotation first. -/
def upto : ℕ → List (Fin 20 × Fin 3)
  | 0 => []
  | t + 1 => (Fin.ofNat 20 t, 2) :: (Fin.ofNat 20 t, 1) :: (Fin.ofNat 20 t, 0) :: upto t

/-- Twenty steps are the kernel's schedule of rotations. -/
theorem upto_all : upto 20 = Rotations.schedule := by decide

/-- What the loop carries for row `b` before trip `k`: the counter, the braids, the angles, plain scales and offsets, and real strands `x`. -/
structure Carried (b : Fin 1024) (g : IVec S1024x20 32) (θ : Fin 2 → Fin 3 → ℝ) (V : Valuation τ sig (Elt Ideal)) (k : ℕ) (x : Fin 4 → Fin 128 → ℝ) :
    Prop where
  counter : counter V = fun _ => BitVec.ofNat 32 k
  braids : braids V = g
  thetas : ∀ l p, thetas V (ix2 l p) = (θ l p : EReal)
  gamma : gamma V = fun _ => 1
  beta : beta V = fun _ => 0
  state : ∀ i h, state V (ix3 b i h) = (x i h : EReal)

section Iterate

variable {b : Fin 1024} {g : IVec S1024x20 32} {θ : Fin 2 → Fin 3 → ℝ} {e : ℝ} (he : 0 < e) (hw : Ideal.ofBits .f32 0x3727C5AC#32 = (e : EReal))

/-- The three rotations of step `t` of layer `l`. -/
def trip (b : Fin 1024) (g : IVec S1024x20 32) (θ : Fin 2 → Fin 3 → ℝ) (l : Fin 2) (t : Fin 20) (x : Fin 4 → Fin 128 → ℝ) (i : Fin 4) (h : Fin 128) : ℝ :=
  Strands.turns (cosines g θ b l) (sines g θ b l) [(t, 2), (t, 1), (t, 0)] (fun i => x i h) i

include he hw in
/-- One trip carries the strands through its rotations, and through the normalisation at a layer's last step. -/
theorem Carried.step {V : Valuation τ sig (Elt Ideal)} (l : Fin 2) (t : Fin 20) {x : Fin 4 → Fin 128 → ℝ} (H : Carried b g θ V (20 * l.val + t.val) x) :
    Carried b g θ (STEP V) (20 * l.val + t.val + 1)
      (fun i => if t = 19 then Strands.norm e (trip b g θ l t x i) else trip b g θ l t x i) where
  counter := by
    refine (STEP_main_v2_5 V).trans (funext fun y => ?_)
    refine (congrArg (fun z : IVec S_ 32 => z y + 1#32) H.counter).trans ?_
    exact (BitVec.ofNat_add (20 * l.val + t.val) 1).symm
  braids := (STEP_main_v2_0 V).trans H.braids
  thetas l p := (congrFun (STEP_main_v2_1 V) (ix2 l p)).trans (H.thetas l p)
  gamma := (STEP_main_v2_2 V).trans H.gamma
  beta := (STEP_main_v2_3 V).trans H.beta
  state i h := by
    refine (trip_at V l t H.counter H.gamma H.beta b θ H.thetas x H.state e he hw i h).trans (congrArg _ ?_)
    have hr : rotated V l t b θ x = trip b g θ l t x := by
      have hg := H.braids
      subst hg
      rfl
    rw [hr]
    by_cases ht : t = 19
    · rw [if_pos ht, if_pos ht]
    · rw [if_neg ht, if_neg ht]

include he hw in
/-- Before step `t` of a layer the strands have been through the rotations of the steps before it. -/
theorem Carried.steps {V : Valuation τ sig (Elt Ideal)} (l : Fin 2) {x : Fin 4 → Fin 128 → ℝ} (H : Carried b g θ V (20 * l.val) x) :
    ∀ t : ℕ, t < 20 → Carried b g θ (STEP^[t] V) (20 * l.val + t)
      (fun i h => Strands.turns (cosines g θ b l) (sines g θ b l) (upto t) (fun i => x i h) i)
  | 0, _ => H
  | t + 1, ht => by
    have h := Carried.step he hw l ⟨t, by omega⟩ (Carried.steps l H t (by omega))
    have hn : ¬ (⟨t, by omega⟩ : Fin 20) = 19 := fun q => absurd (congrArg Fin.val q) (by show ¬ t = 19; omega)
    simp only [if_neg hn] at h
    have ho : (⟨t, by omega⟩ : Fin 20) = Fin.ofNat 20 t := Fin.ext (Nat.mod_eq_of_lt (by omega)).symm
    rw [ho] at h
    rw [Function.iterate_succ_apply']
    exact h

include he hw in
/-- Twenty trips are one layer. -/
theorem Carried.layer {V : Valuation τ sig (Elt Ideal)} (l : Fin 2) {x : Fin 4 → Fin 128 → ℝ} (H : Carried b g θ V (20 * l.val) x) :
    Carried b g θ (STEP^[20] V) (20 * l.val + 20) (Strands.layer e (cosines g θ b l) (sines g θ b l) Rotations.schedule x) := by
  have h := Carried.step he hw l 19 (Carried.steps he hw l H 19 (by decide))
  rw [Function.iterate_succ_apply', ← upto_all]
  exact h

include he hw in
/-- The whole loop is two layers. -/
theorem Carried.loop {V : Valuation τ sig (Elt Ideal)} {x : Fin 4 → Fin 128 → ℝ} (H : Carried b g θ V 0 x) :
    Carried b g θ (STEP^[40] V) 40 (Strands.layer e (cosines g θ b 1) (sines g θ b 1) Rotations.schedule
      (Strands.layer e (cosines g θ b 0) (sines g θ b 0) Rotations.schedule x)) := by
  have h := Carried.layer he hw 1 (Carried.layer he hw 0 H)
  rw [← Function.iterate_add_apply] at h
  exact h

end Iterate

end Cert.Loop
end
-- ==== Proof.Entry.lean ====
/- What the reference's loop starts from, and its results under plain scales and offsets and finite strands and angles. -/
module

public import proofs.«01_k».proof.Proof.Loop

@[expose] public section

set_option maxRecDepth 8192

noncomputable section

namespace Cert.Entry

open Cert.ReferenceIdeal Cert.ReferenceIdeal.Gen Cert.ReferenceIdeal.Value Idealize.ShloMosaic Idealize.ShloMosaic.TcCoe Idealize.ShloMosaic.StableHlo
open Idealize.SL.Sem Cert.Entries Cert.Reference Cert.Perceptron Cert.Loop

variable (m : (ℓ : Loc nD τ sig) → Buf (Elt Ideal) ℓ) (c : Dev nD)

/-- The loop's start. -/
def before : Valuation τ sig (Elt Ideal) := entryContents preI m c

/-- The carried braids are the braid argument. -/
theorem braids_before : braids (before m c) = m ((c.tc : Thread nD τ).loc main_arg0) := by
  unfold braids before
  simp only [entryContents, afterL_cons, afterL_nil]
  after_reads_simp
  rfl

/-- The carried angles are the angle argument. -/
theorem thetas_before : thetas (before m c) = m ((c.tc : Thread nD τ).loc main_arg2) := by
  unfold thetas before
  simp only [entryContents, afterL_cons, afterL_nil]
  after_reads_simp
  rfl

/-- The carried scales are the scale argument. -/
theorem gamma_before : gamma (before m c) = m ((c.tc : Thread nD τ).loc main_arg3) := by
  unfold gamma before
  simp only [entryContents, afterL_cons, afterL_nil]
  after_reads_simp
  rfl

/-- The carried offsets are the offset argument. -/
theorem beta_before : beta (before m c) = m ((c.tc : Thread nD τ).loc main_arg4) := by
  unfold beta before
  simp only [entryContents, afterL_cons, afterL_nil]
  after_reads_simp
  rfl

/-- The counter starts at zero. -/
theorem counter_before : counter (before m c) = fun _ => 0#32 := by
  unfold counter before
  simp only [entryContents, afterL_cons, afterL_nil]
  after_reads_simp
  rfl

/-- The state starts as the initial strands, the same for every row. -/
theorem state_before (b : Fin 1024) (i : Fin 4) (h : Fin 128) :
    state (before m c) (ix3 b i h) = (show FVec Ideal S4x128 .f32 from m ((c.tc : Thread nD τ).loc main_arg1)) (ix2 i h) := by
  unfold state before
  simp only [entryContents, afterL_cons, afterL_nil]
  after_reads_simp
  rw [id_eq]
  pointwise []

variable (hg : m ((c.tc : Thread nD τ).loc main_arg3) = fun _ => (1 : EReal)) (hb : m ((c.tc : Thread nD τ).loc main_arg4) = fun _ => (0 : EReal))
  (θ : Fin 2 → Fin 3 → ℝ) (hθ : ∀ l p, (show FVec Ideal S2x3 .f32 from m ((c.tc : Thread nD τ).loc main_arg2)) (ix2 l p) = (θ l p : EReal))
  (x : Fin 4 → Fin 128 → ℝ) (hx : ∀ i h, (show FVec Ideal S4x128 .f32 from m ((c.tc : Thread nD τ).loc main_arg1)) (ix2 i h) = (x i h : EReal))
  {e : ℝ} (he : 0 < e) (hw : Ideal.ofBits .f32 0x3727C5AC#32 = (e : EReal))

/-- Two layers over real strands, from the braids of row `b`. -/
def layers (e : ℝ) (g : IVec S1024x20 32) (θ : Fin 2 → Fin 3 → ℝ) (x : Fin 4 → Fin 128 → ℝ) (b : Fin 1024) : Fin 4 → Fin 128 → ℝ :=
  Strands.layer e (cosines g θ b 1) (sines g θ b 1) Rotations.schedule (Strands.layer e (cosines g θ b 0) (sines g θ b 0) Rotations.schedule x)

include hg hb hθ hx in
/-- The loop's start carries the arguments. -/
theorem carried_before (b : Fin 1024) : Carried b (m ((c.tc : Thread nD τ).loc main_arg0)) θ (before m c) 0 x where
  counter := counter_before m c
  braids := braids_before m c
  thetas l p := (congrFun (thetas_before m c) (ix2 l p)).trans (hθ l p)
  gamma := (gamma_before m c).trans hg
  beta := (beta_before m c).trans hb
  state i h := (state_before m c b i h).trans (hx i h)

include hg hb hθ hx he hw in
/-- The state after the loop. -/
theorem state_after (b : Fin 1024) (i : Fin 4) (h : Fin 128) :
    state (STEP^[40] (before m c)) (ix3 b i h) = (layers e (m ((c.tc : Thread nD τ).loc main_arg0)) θ x b i h : EReal) :=
  (Carried.loop he hw (carried_before m c hg hb θ hθ x hx b)).state i h

include hg hb hθ hx he hw in
/-- The outputs of the dense layers after the loop. -/
theorem outputs_after (b : Fin 1024) (o : Fin 2) :
    outputs (weight1 (STEP^[40] (before m c))) (bias1 (STEP^[40] (before m c))) (weight2 (STEP^[40] (before m c))) (bias2 (STEP^[40] (before m c)))
      (weight3 (STEP^[40] (before m c))) (bias3 (STEP^[40] (before m c))) (fun i h => state (STEP^[40] (before m c)) (ix3 b i h)) o
    = outputs (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) (m ((c.tc : Thread nD τ).loc main_arg10))
      (fun i h => (layers e (m ((c.tc : Thread nD τ).loc main_arg0)) θ x b i h : EReal)) o := by
  simp only [state_after m c hg hb θ hθ x hx he hw]
  rw [show weight1 (STEP^[40] (before m c)) = _ from iter_main_arg5 m c 40, show bias1 (STEP^[40] (before m c)) = _ from iter_main_arg6 m c 40,
    show weight2 (STEP^[40] (before m c)) = _ from iter_main_arg7 m c 40, show bias2 (STEP^[40] (before m c)) = _ from iter_main_arg8 m c 40,
    show weight3 (STEP^[40] (before m c)) = _ from iter_main_arg9 m c 40, show bias3 (STEP^[40] (before m c)) = _ from iter_main_arg10 m c 40]

end Cert.Entry
end
-- ==== Proof.Agree.lean ====
/- The kernel's results are the reference's. -/
module

public import proofs.«01_k».proof.Proof.Arrays
public import proofs.«01_k».proof.Proof.Entry

@[expose] public section

set_option maxRecDepth 8192

noncomputable section

namespace Cert.Agree

open Idealize.ShloMosaic Idealize.ShloMosaic.TcCoe Idealize.SL.Sem Cert.Entry Cert.Entries Cert.Output Cert.Perceptron

/-- The kernel's two layers are the reference's. -/
theorem layers_at (x0 : IVec KernelIdeal.S1024x20 32) (x1 : FVec Ideal KernelIdeal.S4x128 .f32) (x2 : FVec Ideal KernelIdeal.S2x3 .f32)
    (θ : Fin 2 → Fin 3 → ℝ) (hθ : ∀ l p, x2 (ix2 l p) = (θ l p : EReal)) (x : Fin 4 → Fin 128 → ℝ) (hx : ∀ i h, x1 (ix2 i h) = (x i h : EReal))
    {e : ℝ} (he : 0 < e) (hw : Ideal.ofBits .f32 0x3727C5AC#32 = (e : EReal)) (b : Fin 1024) (i : Fin 4) (h : Fin 128) :
    Layers.second (final x0 x2) x1 i (ix2 h b) = (layers e x0 θ x b i h : EReal) :=
  Normalised.second_real (final x0 x2) x1 x hx b (cosines x0 θ b) (sines x0 θ b) Rotations.schedule (fun l i j => final_at x0 x2 θ hθ l i j b) e he hw i h

/-- The two memories hold the same arguments on device `c`. -/
abbrev Same (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (c : Dev KernelIdeal.nD) : Prop :=
  m' ((c.tc : Thread ReferenceIdeal.nD ReferenceIdeal.τ).loc ReferenceIdeal.main_arg0) = m ((c.tc : Thread KernelIdeal.nD KernelIdeal.τ).loc KernelIdeal.main_arg0)
  ∧ m' ((c.tc : Thread ReferenceIdeal.nD ReferenceIdeal.τ).loc ReferenceIdeal.main_arg1) = m ((c.tc : Thread KernelIdeal.nD KernelIdeal.τ).loc KernelIdeal.main_arg1)
  ∧ m' ((c.tc : Thread ReferenceIdeal.nD ReferenceIdeal.τ).loc ReferenceIdeal.main_arg2) = m ((c.tc : Thread KernelIdeal.nD KernelIdeal.τ).loc KernelIdeal.main_arg2)
  ∧ m' ((c.tc : Thread ReferenceIdeal.nD ReferenceIdeal.τ).loc ReferenceIdeal.main_arg3) = m ((c.tc : Thread KernelIdeal.nD KernelIdeal.τ).loc KernelIdeal.main_arg3)
  ∧ m' ((c.tc : Thread ReferenceIdeal.nD ReferenceIdeal.τ).loc ReferenceIdeal.main_arg4) = m ((c.tc : Thread KernelIdeal.nD KernelIdeal.τ).loc KernelIdeal.main_arg4)
  ∧ m' ((c.tc : Thread ReferenceIdeal.nD ReferenceIdeal.τ).loc ReferenceIdeal.main_arg5) = m ((c.tc : Thread KernelIdeal.nD KernelIdeal.τ).loc KernelIdeal.main_arg5)
  ∧ m' ((c.tc : Thread ReferenceIdeal.nD ReferenceIdeal.τ).loc ReferenceIdeal.main_arg6) = m ((c.tc : Thread KernelIdeal.nD KernelIdeal.τ).loc KernelIdeal.main_arg6)
  ∧ m' ((c.tc : Thread ReferenceIdeal.nD ReferenceIdeal.τ).loc ReferenceIdeal.main_arg7) = m ((c.tc : Thread KernelIdeal.nD KernelIdeal.τ).loc KernelIdeal.main_arg7)
  ∧ m' ((c.tc : Thread ReferenceIdeal.nD ReferenceIdeal.τ).loc ReferenceIdeal.main_arg8) = m ((c.tc : Thread KernelIdeal.nD KernelIdeal.τ).loc KernelIdeal.main_arg8)
  ∧ m' ((c.tc : Thread ReferenceIdeal.nD ReferenceIdeal.τ).loc ReferenceIdeal.main_arg9) = m ((c.tc : Thread KernelIdeal.nD KernelIdeal.τ).loc KernelIdeal.main_arg9)
  ∧ m' ((c.tc : Thread ReferenceIdeal.nD ReferenceIdeal.τ).loc ReferenceIdeal.main_arg10) = m ((c.tc : Thread KernelIdeal.nD KernelIdeal.τ).loc KernelIdeal.main_arg10)

variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ) (c : Dev KernelIdeal.nD) (hs : Same m m' c)
  (hg : m ((c.tc : Thread KernelIdeal.nD KernelIdeal.τ).loc KernelIdeal.main_arg3) = fun _ => (1 : EReal))
  (hb : m ((c.tc : Thread KernelIdeal.nD KernelIdeal.τ).loc KernelIdeal.main_arg4) = fun _ => (0 : EReal))
  (hx : ∀ i h, ∃ r : ℝ, (show FVec Ideal KernelIdeal.S4x128 .f32 from m ((c.tc : Thread KernelIdeal.nD KernelIdeal.τ).loc KernelIdeal.main_arg1)) (ix2 i h) = (r : EReal))
  (hθ : ∀ l p, ∃ r : ℝ, (show FVec Ideal KernelIdeal.S2x3 .f32 from m ((c.tc : Thread KernelIdeal.nD KernelIdeal.τ).loc KernelIdeal.main_arg2)) (ix2 l p) = (r : EReal))

include hs hg hb hx hθ in
/-- The outputs of the dense layers, the reference's over its last state and the kernel's over its second layer. -/
theorem outputs_agree (b : Fin 1024) (o : Fin 2) :
    outputs (Reference.weight1 (ReferenceIdeal.Value.STEP^[40] (before m' c))) (Reference.bias1 (ReferenceIdeal.Value.STEP^[40] (before m' c)))
      (Reference.weight2 (ReferenceIdeal.Value.STEP^[40] (before m' c))) (Reference.bias2 (ReferenceIdeal.Value.STEP^[40] (before m' c)))
      (Reference.weight3 (ReferenceIdeal.Value.STEP^[40] (before m' c))) (Reference.bias3 (ReferenceIdeal.Value.STEP^[40] (before m' c)))
      (fun i h => Reference.state (ReferenceIdeal.Value.STEP^[40] (before m' c)) (ix3 b i h)) o
    = outputs (m ((c.tc : Thread KernelIdeal.nD KernelIdeal.τ).loc KernelIdeal.main_arg5)) (m ((c.tc : Thread KernelIdeal.nD KernelIdeal.τ).loc KernelIdeal.main_arg6))
      (m ((c.tc : Thread KernelIdeal.nD KernelIdeal.τ).loc KernelIdeal.main_arg7)) (m ((c.tc : Thread KernelIdeal.nD KernelIdeal.τ).loc KernelIdeal.main_arg8))
      (m ((c.tc : Thread KernelIdeal.nD KernelIdeal.τ).loc KernelIdeal.main_arg9)) (m ((c.tc : Thread KernelIdeal.nD KernelIdeal.τ).loc KernelIdeal.main_arg10))
      (fun i h => Layers.second (F := Ideal) (final (F := Ideal) (m ((c.tc : Thread KernelIdeal.nD KernelIdeal.τ).loc KernelIdeal.main_arg0)) (m ((c.tc : Thread KernelIdeal.nD KernelIdeal.τ).loc KernelIdeal.main_arg2)))
        (m ((c.tc : Thread KernelIdeal.nD KernelIdeal.τ).loc KernelIdeal.main_arg1)) i (ix2 h b)) o := by
  obtain ⟨e, he, hw⟩ := small
  choose x hx using hx
  choose θ hθ using hθ
  obtain ⟨a0, a1, a2, a3, a4, a5, a6, a7, a8, a9, a10⟩ := hs
  refine (outputs_after m' c (a3.trans hg) (a4.trans hb) θ (fun l p => (congrFun a2 (ix2 l p)).trans (hθ l p)) x
    (fun i h => (congrFun a1 (ix2 i h)).trans (hx i h)) he hw b o).trans ?_
  rw [a0, a5, a6, a7, a8, a9, a10]
  exact congrArg (outputs _ _ _ _ _ _ · o) (funext fun i => funext fun h => (layers_at _ _ _ θ hθ x hx he hw b i h).symm)

include hs hg hb hx hθ in
/-- The first results are the same array. -/
theorem result0_agree : ReferenceIdeal.Value.out_main_v30 (ReferenceIdeal.Value.STEP^[40] (before m' c))
    = (KernelIdeal.Gen.dats m 0 c).arrAt 11 (KernelIdeal.cfgs 0).N := by
  rw [Arrays.array0]
  refine funext fun y => ?_
  rw [eq_ix1 y]
  exact (Reference.out30_at _ _).trans ((congrArg Ideal.logistic (outputs_agree m m' c hs hg hb hx hθ _ 0)).trans (result0_at ..).symm)

include hs hg hb hx hθ in
/-- The second results are the same array. -/
theorem result1_agree : ReferenceIdeal.Value.out_main_v32 (ReferenceIdeal.Value.STEP^[40] (before m' c))
    = (KernelIdeal.Gen.dats m 0 c).arrAt 12 (KernelIdeal.cfgs 0).N := by
  rw [Arrays.array1]
  refine funext fun y => ?_
  rw [eq_ix1 y]
  exact (Reference.out32_at _ _).trans ((outputs_agree m m' c hs hg hb hx hθ _ 1).trans (result1_at ..).symm)

end Cert.Agree
end
-- ==== Proof.Plain.lean ====
/- What the precondition says of the arguments. -/
module

public import proofs.«01_k».proof.Pre_plain_norms
public import proofs.«01_k».proof.Proof.Entries

@[expose] public section

noncomputable section

namespace Cert.Plain

open Cert.Pre_plain_norms Idealize.ShloMosaic Cert.Entries

/-- A comparison that came out one. -/
theorem of_flag {p : Bool} (h : BitVec.ofBool p = 1#1) : p = true := by
  revert p; decide

/-- An extended real below the top in absolute value is a real. -/
theorem real_of_abs {z : EReal} (h : max z (-z) < ⊤) : ∃ r : ℝ, z = (r : EReal) := by
  induction z with
  | bot => simp at h
  | top => simp at h
  | coe r => exact ⟨r, rfl⟩

variable [Facts] (x0 : IVec S1024x20 32) (x1 : FVec Ideal S4x128 .f32) (x2 : FVec Ideal S2x3 .f32) (x3 x4 : FVec Ideal S2x128 .f32)
  (x5 : FVec Ideal S128x512 .f32) (x6 : FVec Ideal S128 .f32) (x7 : FVec Ideal S64x128 .f32) (x8 : FVec Ideal S64 .f32)
  (x9 : FVec Ideal S2x64 .f32) (x10 : FVec Ideal S2 .f32)

/-- The scales are one. -/
theorem scales (h : (fn x0 x1 x2 x3 x4 x5 x6 x7 x8 x9 x10).1 = fun _ => 1#1) : x3 = fun _ => (1 : EReal) := by
  funext y
  rw [eq_ix2 y]
  have q := congrFun h (ix2 (y 0) (y 1))
  revert q
  unfold fn
  pointwise []
  exact fun q => of_decide_eq_true (of_flag q)

/-- The offsets are zero. -/
theorem offsets (h : (fn x0 x1 x2 x3 x4 x5 x6 x7 x8 x9 x10).2.1 = fun _ => 1#1) : x4 = fun _ => (0 : EReal) := by
  funext y
  rw [eq_ix2 y]
  have q := congrFun h (ix2 (y 0) (y 1))
  revert q
  unfold fn
  pointwise []
  exact fun q => of_decide_eq_true (of_flag q)

/-- The initial strands are real. -/
theorem strands (h : (fn x0 x1 x2 x3 x4 x5 x6 x7 x8 x9 x10).2.2.1 = fun _ => 1#1) (i : Fin 4) (j : Fin 128) : ∃ r : ℝ, x1 (ix2 i j) = (r : EReal) := by
  have q := congrFun h (ix2 i j)
  revert q
  unfold fn
  pointwise []
  rw [infinity]
  exact fun q => real_of_abs (of_decide_eq_true (of_flag q))

/-- The angles are real. -/
theorem angles (h : (fn x0 x1 x2 x3 x4 x5 x6 x7 x8 x9 x10).2.2.2 = fun _ => 1#1) (l : Fin 2) (p : Fin 3) : ∃ r : ℝ, x2 (ix2 l p) = (r : EReal) := by
  have q := congrFun h (ix2 l p)
  revert q
  unfold fn
  pointwise []
  rw [infinity]
  exact fun q => real_of_abs (of_decide_eq_true (of_flag q))

end Cert.Plain
end
-- ==== Proof.lean ====
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.Pre_plain_norms
public import proofs.«01_k».proof.Proof.Agree
public import proofs.«01_k».proof.Proof.Plain
public import Idealize.ShloMosaic.Adequacy
public import Idealize.ShloMosaic.Init

@[expose] public section

noncomputable section

namespace Cert.Proof

open Idealize.ShloMosaic Idealize.SL.Sem Cert.Kernel

/-- The reference runs, leaves its arguments unchanged, and has no semaphore that could be left raised. -/
theorem frame_reference : Cert.quiescent_ReferenceIdeal (hReferenceIdeal := Cert.ReferenceIdeal.Gen.facts) :=
  fun m g _ => (θ_run Cert.ReferenceIdeal.defs _ _).mono
    (fun r h => ⟨fun c => (h c).2.2, Idealize.ShloMosaic.sem_eq_zero_of_no_sems (by decide) r.2⟩)
    (Cert.ReferenceIdeal.Value.run (F := Ideal) m g)

/-- The idealized kernel and the idealized reference end with the same two results, from arguments that `plain_norms` holds of. -/
theorem results_agree : Cert.algebraic_KernelIdeal_ReferenceIdeal_pre_plain_norms (hKernelIdeal := Cert.KernelIdeal.Gen.facts)
    (hReferenceIdeal := Cert.ReferenceIdeal.Gen.facts) (hPre_plain_norms := Cert.Pre_plain_norms.Gen.facts) := by
  intro m g m' g' hpre hs
  refine ⟨fun c => (Cert.KernelIdeal.Gen.dats m 0 c).arrAt 11 (Cert.KernelIdeal.cfgs 0).N,
    fun c => (Cert.KernelIdeal.Gen.dats m 0 c).arrAt 12 (Cert.KernelIdeal.cfgs 0).N, Cert.KernelIdeal.Value.run_blocks m g,
    (θ_run Cert.ReferenceIdeal.defs _ _).mono (fun r h c => ?_) (Cert.ReferenceIdeal.Value.run (F := Ideal) m' g')⟩
  obtain ⟨h0, h1, hargs⟩ := h c
  obtain ⟨p3, p4, p1, p2⟩ := hpre c
  have hg := Plain.scales _ _ _ _ _ _ _ _ _ _ _ p3
  have hb := Plain.offsets _ _ _ _ _ _ _ _ _ _ _ p4
  have hx := Plain.strands _ _ _ _ _ _ _ _ _ _ _ p1
  have hθ := Plain.angles _ _ _ _ _ _ _ _ _ _ _ p2
  exact ⟨h0.trans (Agree.result0_agree m m' c (hs c) hg hb hx hθ), h1.trans (Agree.result1_agree m m' c (hs c) hg hb hx hθ), hargs⟩

theorem claim : Cert.Claim := ⟨Cert.Kernel.Gen.facts, Cert.KernelIdeal.Gen.facts, Cert.ReferenceIdeal.Gen.facts, Cert.Pre_plain_norms.Gen.facts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial, trivial, results_agree⟩

end Cert.Proof

end
